-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S16 : Shape := ⟨1, ![16]⟩
abbrev S16x32768x256 : Shape := ⟨3, ![16, 32768, 256]⟩
abbrev S16x1x32768 : Shape := ⟨3, ![16, 1, 32768]⟩
abbrev S16x32768x128 : Shape := ⟨3, ![16, 32768, 128]⟩
abbrev S_ : Shape := ⟨0, ![]⟩

class Facts : Prop where
  bcast_S_S16x1x32768 : S_.BroadcastsInDim S16x1x32768 (![] : Fin 0 → Fin S16x1x32768.rank)

variable [Facts]

def fn {F : FTy → Type} [FloatOps F] (main_arg0 : FVec F S16 .f32) (main_arg1 : FVec F S16x32768x256 .fp8e4m3) (main_arg2 : FVec F S16x1x32768 .f32) (main_arg3 : FVec F S16x32768x256 .fp8e4m3) (main_arg4 : FVec F S16x1x32768 .f32) (main_arg5 : FVec F S16x32768x128 .fp8e4m3) : IVec S16x1x32768 1 :=
  let main_cst : FVec F S_ .f32 := constant S_ .f32 0x00000000#32
  let main_v0 : FVec F S16x1x32768 .f32 := broadcastInDim S16x1x32768 ![] bcast_S_S16x1x32768 main_cst
  let main_v1 : IVec S16x1x32768 1 := cmpf .ogt main_arg2 main_v0
  main_v1
-- ==== Kernel.lean ====
abbrev S16 : Shape := ⟨1, ![16]⟩
abbrev S16x32768x256 : Shape := ⟨3, ![16, 32768, 256]⟩
abbrev S16x1x32768 : Shape := ⟨3, ![16, 1, 32768]⟩
abbrev S16x32768x128 : Shape := ⟨3, ![16, 32768, 128]⟩
abbrev S1x256x256 : Shape := ⟨3, ![1, 256, 256]⟩
abbrev S1x1x256 : Shape := ⟨3, ![1, 1, 256]⟩
abbrev S1x1x32768 : Shape := ⟨3, ![1, 1, 32768]⟩
abbrev S1x32768x256 : Shape := ⟨3, ![1, 32768, 256]⟩
abbrev S1x32768x128 : Shape := ⟨3, ![1, 32768, 128]⟩
abbrev S1x256x128 : Shape := ⟨3, ![1, 256, 128]⟩
abbrev S128x256x256 : Shape := ⟨3, ![128, 256, 256]⟩
abbrev S256x128 : Shape := ⟨2, ![256, 128]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1 : Shape := ⟨1, ![1]⟩
abbrev S128x256 : Shape := ⟨2, ![128, 256]⟩

abbrev nBuf : Space → Nat
  | .hbm => 7
  | .vmem => 16
  | .smem => 1
  | _ => 0

abbrev bufTy : (tb : Table) → Fin (tcTables nBuf tb) → BufTy
  | .hbm, ⟨0, _⟩ => ⟨S16, .f32⟩
  | .hbm, ⟨1, _⟩ => ⟨S16x32768x256, .fp8e4m3⟩
  | .hbm, ⟨2, _⟩ => ⟨S16x1x32768, .f32⟩
  | .hbm, ⟨3, _⟩ => ⟨S16x32768x256, .fp8e4m3⟩
  | .hbm, ⟨4, _⟩ => ⟨S16x1x32768, .f32⟩
  | .hbm, ⟨5, _⟩ => ⟨S16x32768x128, .fp8e4m3⟩
  | .hbm, ⟨6, _⟩ => ⟨S16x32768x128, .bf16⟩
  | .local _ .vmem, ⟨0, _⟩ => ⟨S1x256x256, .fp8e4m3⟩
  | .local _ .vmem, ⟨1, _⟩ => ⟨S1x256x256, .fp8e4m3⟩
  | .local _ .vmem, ⟨2, _⟩ => ⟨S1x1x256, .f32⟩
  | .local _ .vmem, ⟨3, _⟩ => ⟨S1x1x256, .f32⟩
  | .local _ .vmem, ⟨4, _⟩ => ⟨S1x1x32768, .f32⟩
  | .local _ .vmem, ⟨5, _⟩ => ⟨S1x1x32768, .f32⟩
  | .local _ .vmem, ⟨6, _⟩ => ⟨S1x32768x256, .fp8e4m3⟩
  | .local _ .vmem, ⟨7, _⟩ => ⟨S1x32768x128, .fp8e4m3⟩
  | .local _ .vmem, ⟨8, _⟩ => ⟨S1x256x128, .bf16⟩
  | .local _ .vmem, ⟨9, _⟩ => ⟨S1x256x128, .bf16⟩
  | .local _ .vmem, ⟨10, _⟩ => ⟨S128x256x256, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 129], ![false, false]⟩

def k0_cond2 (i : grid0.Coords) : BitVec 1 :=
  let arg1 : BitVec 32 := BitVec.ofNat 32 (i 1).val
  let c128_i32 : BitVec 32 := 128#32
  let v34 : BitVec 1 := Scalar.cmpi .slt arg1 c128_i32
  let v35 : BitVec 32 := Scalar.extui v34
  let c0_i32_13 : BitVec 32 := 0#32
  let v36 : BitVec 1 := Scalar.cmpi .ne v35 c0_i32_13
  v36

@[reducible] def k0_t1_loop (i : grid0.Coords) : Scf.Loop 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_38 : BitVec 32 := 1#32
  ⟨c0_i32_35, v73, c1_i32_38⟩
def k0_off1 (i : grid0.Coords) (k0_t1 : Fin (k0_t1_loop i).trips) (c0_i32_47 : BitVec 32) : Fin 3 → Nat :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let v89 : BitVec 32 := Scalar.addi v88 c0_i32_47
  let v92 : Index := Scalar.indexCast v89
  let c0_52 : Index := 0#32
  let c0_53 : Index := 0#32
  ![v92.toNat, 0, 0]
def k0_off2 (i : grid0.Coords) (k0_t1 : Fin (k0_t1_loop i).trips) (c0_i32_47 : BitVec 32) : Fin 3 → Nat :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let v89 : BitVec 32 := Scalar.addi v88 c0_i32_47
  let v98 : Index := Scalar.indexCast v89
  let c0_54 : Index := 0#32
  let c128 : Index := 128#32
  ![v98.toNat, 0, 128]
def k0_mult1 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c0_i32_47 : BitVec 32 := 0#32
  let v89 : BitVec 32 := Scalar.addi v88 c0_i32_47
  let c256_i32 : BitVec 32 := 256#32
  let v113 : BitVec 32 := Scalar.muli v89 c256_i32
  v113
def k0_off3 (i : grid0.Coords) (k0_t1 : Fin (k0_t1_loop i).trips) (c0_i32_47 : BitVec 32) : Fin 3 → Nat :=
  let c0_59 : Index := 0#32
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let v89 : BitVec 32 := Scalar.addi v88 c0_i32_47
  let c256_i32 : BitVec 32 := 256#32
  let v113 : BitVec 32 := Scalar.muli v89 c256_i32
  let v114 : BitVec 32 := v113
  let v115 : Index := Scalar.indexCast v114
  let c0_60 : Index := 0#32
  ![0, v115.toNat, 0]
def k0_mult2 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c0_i32_62 : BitVec 32 := 0#32
  let v119 : BitVec 32 := Scalar.addi v88 c0_i32_62
  let c256_i32_63 : BitVec 32 := 256#32
  let v120 : BitVec 32 := Scalar.muli v119 c256_i32_63
  v120
def k0_off4 (i : grid0.Coords) (k0_t1 : Fin (k0_t1_loop i).trips) (c0_i32_62 : BitVec 32) : Fin 3 → Nat :=
  let c0_64 : Index := 0#32
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let v119 : BitVec 32 := Scalar.addi v88 c0_i32_62
  let c256_i32_63 : BitVec 32 := 256#32
  let v120 : BitVec 32 := Scalar.muli v119 c256_i32_63
  let v121 : BitVec 32 := v120
  let v122 : Index := Scalar.indexCast v121
  let c0_65 : Index := 0#32
  ![0, v122.toNat, 0]
def k0_mult3 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c0_i32_62 : BitVec 32 := 0#32
  let v119 : BitVec 32 := Scalar.addi v88 c0_i32_62
  let c256_i32_70 : BitVec 32 := 256#32
  let v128 : BitVec 32 := Scalar.muli v119 c256_i32_70
  v128
def k0_off5 (i : grid0.Coords) (k0_t1 : Fin (k0_t1_loop i).trips) (c0_i32_62 : BitVec 32) : Fin 3 → Nat :=
  let c0_71 : Index := 0#32
  let c0_72 : Index := 0#32
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let v119 : BitVec 32 := Scalar.addi v88 c0_i32_62
  let c256_i32_70 : BitVec 32 := 256#32
  let v128 : BitVec 32 := Scalar.muli v119 c256_i32_70
  let v129 : BitVec 32 := v128
  let v130 : Index := Scalar.indexCast v129
  ![0, 0, v130.toNat]
def k0_off6 (i : grid0.Coords) (k0_t1 : Fin (k0_t1_loop i).trips) (c0_i32_62 : BitVec 32) : Fin 3 → Nat :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let v119 : BitVec 32 := Scalar.addi v88 c0_i32_62
  let v135 : Index := Scalar.indexCast v119
  let c0_73 : Index := 0#32
  let c0_74 : Index := 0#32
  ![v135.toNat, 0, 0]
def k0_mult4 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c1_i32_79 : BitVec 32 := 1#32
  let v147 : BitVec 32 := Scalar.addi v88 c1_i32_79
  let c256_i32_92 : BitVec 32 := 256#32
  let v171 : BitVec 32 := Scalar.muli v147 c256_i32_92
  v171
def k0_mult5 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c1_i32_96 : BitVec 32 := 1#32
  let v178 : BitVec 32 := Scalar.addi v88 c1_i32_96
  let c256_i32_97 : BitVec 32 := 256#32
  let v179 : BitVec 32 := Scalar.muli v178 c256_i32_97
  v179
def k0_mult6 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c1_i32_96 : BitVec 32 := 1#32
  let v178 : BitVec 32 := Scalar.addi v88 c1_i32_96
  let c256_i32_104 : BitVec 32 := 256#32
  let v187 : BitVec 32 := Scalar.muli v178 c256_i32_104
  v187
def k0_mult7 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c2_i32_113 : BitVec 32 := 2#32
  let v206 : BitVec 32 := Scalar.addi v88 c2_i32_113
  let c256_i32_126 : BitVec 32 := 256#32
  let v230 : BitVec 32 := Scalar.muli v206 c256_i32_126
  v230
def k0_mult8 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c2_i32_130 : BitVec 32 := 2#32
  let v237 : BitVec 32 := Scalar.addi v88 c2_i32_130
  let c256_i32_131 : BitVec 32 := 256#32
  let v238 : BitVec 32 := Scalar.muli v237 c256_i32_131
  v238
def k0_mult9 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c2_i32_130 : BitVec 32 := 2#32
  let v237 : BitVec 32 := Scalar.addi v88 c2_i32_130
  let c256_i32_138 : BitVec 32 := 256#32
  let v246 : BitVec 32 := Scalar.muli v237 c256_i32_138
  v246
def k0_mult10 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c3_i32_147 : BitVec 32 := 3#32
  let v265 : BitVec 32 := Scalar.addi v88 c3_i32_147
  let c256_i32_160 : BitVec 32 := 256#32
  let v289 : BitVec 32 := Scalar.muli v265 c256_i32_160
  v289
def k0_mult11 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c3_i32_164 : BitVec 32 := 3#32
  let v296 : BitVec 32 := Scalar.addi v88 c3_i32_164
  let c256_i32_165 : BitVec 32 := 256#32
  let v297 : BitVec 32 := Scalar.muli v296 c256_i32_165
  v297
def k0_mult12 (i : grid0.Coords) (k0_t1 : Fin (k0_t1_loop i).trips) : BitVec 32 :=
  let c0_i32_35 : BitVec 32 := 0#32
  let c1_i32_38 : BitVec 32 := 1#32
  let arg15 : BitVec 32 := Scf.iv c0_i32_35 c1_i32_38 k0_t1
  let c4_i32_46 : BitVec 32 := 4#32
  let v88 : BitVec 32 := Scalar.muli arg15 c4_i32_46
  let c3_i32_164 : BitVec 32 := 3#32
  let v296 : BitVec 32 := Scalar.addi v88 c3_i32_164
  let c256_i32_172 : BitVec 32 := 256#32
  let v305 : BitVec 32 := Scalar.muli v296 c256_i32_172
  v305
@[reducible] def k0_t2_loop (i : grid0.Coords) : Scf.Loop 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let v70 : BitVec 32 := Scalar.addi c0_i32_35 v69
  let c1_i32_39 : BitVec 32 := 1#32
  ⟨v73, v70, c1_i32_39⟩
def k0_off7 (i : grid0.Coords) (k0_t2 : Fin (k0_t2_loop i).trips) (c0_i32_47 : BitVec 32) : Fin 3 → Nat :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let v89 : BitVec 32 := Scalar.addi v88 c0_i32_47
  let v92 : Index := Scalar.indexCast v89
  let c0_52 : Index := 0#32
  let c0_53 : Index := 0#32
  ![v92.toNat, 0, 0]
def k0_off8 (i : grid0.Coords) (k0_t2 : Fin (k0_t2_loop i).trips) (c0_i32_47 : BitVec 32) : Fin 3 → Nat :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let v89 : BitVec 32 := Scalar.addi v88 c0_i32_47
  let v98 : Index := Scalar.indexCast v89
  let c0_54 : Index := 0#32
  let c128 : Index := 128#32
  ![v98.toNat, 0, 128]
def k0_mult13 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c0_i32_47 : BitVec 32 := 0#32
  let v89 : BitVec 32 := Scalar.addi v88 c0_i32_47
  let c256_i32 : BitVec 32 := 256#32
  let v113 : BitVec 32 := Scalar.muli v89 c256_i32
  v113
def k0_off9 (i : grid0.Coords) (k0_t2 : Fin (k0_t2_loop i).trips) (c0_i32_47 : BitVec 32) : Fin 3 → Nat :=
  let c0_59 : Index := 0#32
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let v89 : BitVec 32 := Scalar.addi v88 c0_i32_47
  let c256_i32 : BitVec 32 := 256#32
  let v113 : BitVec 32 := Scalar.muli v89 c256_i32
  let v114 : BitVec 32 := v113
  let v115 : Index := Scalar.indexCast v114
  let c0_60 : Index := 0#32
  ![0, v115.toNat, 0]
def k0_mult14 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c0_i32_62 : BitVec 32 := 0#32
  let v119 : BitVec 32 := Scalar.addi v88 c0_i32_62
  let c256_i32_63 : BitVec 32 := 256#32
  let v120 : BitVec 32 := Scalar.muli v119 c256_i32_63
  v120
def k0_off10 (i : grid0.Coords) (k0_t2 : Fin (k0_t2_loop i).trips) (c0_i32_62 : BitVec 32) : Fin 3 → Nat :=
  let c0_64 : Index := 0#32
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let v119 : BitVec 32 := Scalar.addi v88 c0_i32_62
  let c256_i32_63 : BitVec 32 := 256#32
  let v120 : BitVec 32 := Scalar.muli v119 c256_i32_63
  let v121 : BitVec 32 := v120
  let v122 : Index := Scalar.indexCast v121
  let c0_65 : Index := 0#32
  ![0, v122.toNat, 0]
def k0_mult15 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c0_i32_62 : BitVec 32 := 0#32
  let v119 : BitVec 32 := Scalar.addi v88 c0_i32_62
  let c256_i32_70 : BitVec 32 := 256#32
  let v128 : BitVec 32 := Scalar.muli v119 c256_i32_70
  v128
def k0_off11 (i : grid0.Coords) (k0_t2 : Fin (k0_t2_loop i).trips) (c0_i32_62 : BitVec 32) : Fin 3 → Nat :=
  let c0_71 : Index := 0#32
  let c0_72 : Index := 0#32
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let v119 : BitVec 32 := Scalar.addi v88 c0_i32_62
  let c256_i32_70 : BitVec 32 := 256#32
  let v128 : BitVec 32 := Scalar.muli v119 c256_i32_70
  let v129 : BitVec 32 := v128
  let v130 : Index := Scalar.indexCast v129
  ![0, 0, v130.toNat]
def k0_off12 (i : grid0.Coords) (k0_t2 : Fin (k0_t2_loop i).trips) (c0_i32_62 : BitVec 32) : Fin 3 → Nat :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let v119 : BitVec 32 := Scalar.addi v88 c0_i32_62
  let v135 : Index := Scalar.indexCast v119
  let c0_73 : Index := 0#32
  let c0_74 : Index := 0#32
  ![v135.toNat, 0, 0]
def k0_mult16 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c1_i32_79 : BitVec 32 := 1#32
  let v147 : BitVec 32 := Scalar.addi v88 c1_i32_79
  let c256_i32_92 : BitVec 32 := 256#32
  let v171 : BitVec 32 := Scalar.muli v147 c256_i32_92
  v171
def k0_mult17 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c1_i32_96 : BitVec 32 := 1#32
  let v178 : BitVec 32 := Scalar.addi v88 c1_i32_96
  let c256_i32_97 : BitVec 32 := 256#32
  let v179 : BitVec 32 := Scalar.muli v178 c256_i32_97
  v179
def k0_mult18 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c1_i32_96 : BitVec 32 := 1#32
  let v178 : BitVec 32 := Scalar.addi v88 c1_i32_96
  let c256_i32_104 : BitVec 32 := 256#32
  let v187 : BitVec 32 := Scalar.muli v178 c256_i32_104
  v187
def k0_mult19 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c2_i32_113 : BitVec 32 := 2#32
  let v206 : BitVec 32 := Scalar.addi v88 c2_i32_113
  let c256_i32_126 : BitVec 32 := 256#32
  let v230 : BitVec 32 := Scalar.muli v206 c256_i32_126
  v230
def k0_mult20 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c2_i32_130 : BitVec 32 := 2#32
  let v237 : BitVec 32 := Scalar.addi v88 c2_i32_130
  let c256_i32_131 : BitVec 32 := 256#32
  let v238 : BitVec 32 := Scalar.muli v237 c256_i32_131
  v238
def k0_mult21 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c2_i32_130 : BitVec 32 := 2#32
  let v237 : BitVec 32 := Scalar.addi v88 c2_i32_130
  let c256_i32_138 : BitVec 32 := 256#32
  let v246 : BitVec 32 := Scalar.muli v237 c256_i32_138
  v246
def k0_mult22 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c3_i32_147 : BitVec 32 := 3#32
  let v265 : BitVec 32 := Scalar.addi v88 c3_i32_147
  let c256_i32_160 : BitVec 32 := 256#32
  let v289 : BitVec 32 := Scalar.muli v265 c256_i32_160
  v289
def k0_mult23 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c3_i32_164 : BitVec 32 := 3#32
  let v296 : BitVec 32 := Scalar.addi v88 c3_i32_164
  let c256_i32_165 : BitVec 32 := 256#32
  let v297 : BitVec 32 := Scalar.muli v296 c256_i32_165
  v297
def k0_mult24 (i : grid0.Coords) (k0_t2 : Fin (k0_t2_loop i).trips) : BitVec 32 :=
  let c0_i32_35 : BitVec 32 := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v69 : BitVec 32 := Scalar.subi v23 c0_i32_35
  let c1_i32_37 : BitVec 32 := 1#32
  let v71 : BitVec 32 := Scalar.divsi v69 c1_i32_37
  let v72 : BitVec 32 := Scalar.muli v71 c1_i32_37
  let v73 : BitVec 32 := Scalar.addi c0_i32_35 v72
  let c1_i32_39 : BitVec 32 := 1#32
  let arg15 : BitVec 32 := Scf.iv v73 c1_i32_39 k0_t2
  let c4_i32_46 : BitVec 32 := 4#32
  let v88 : BitVec 32 := Scalar.muli arg15 c4_i32_46
  let c3_i32_164 : BitVec 32 := 3#32
  let v296 : BitVec 32 := Scalar.addi v88 c3_i32_164
  let c256_i32_172 : BitVec 32 := 256#32
  let v305 : BitVec 32 := Scalar.muli v296 c256_i32_172
  v305
def k0_cond3 (i : grid0.Coords) : BitVec 1 :=
  let arg1 : BitVec 32 := BitVec.ofNat 32 (i 1).val
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi arg1 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_40 : BitVec 32 := 0#32
  let v76 : BitVec 1 := Scalar.cmpi .eq v33 c0_i32_40
  let v77 : BitVec 32 := Scalar.extui v76
  let c0_i32_41 : BitVec 32 := 0#32
  let v78 : BitVec 1 := Scalar.cmpi .ne v77 c0_i32_41
  v78

def k0_mult25 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32 : BitVec 32 := 256#32
  let v90 : BitVec 32 := Scalar.muli v89 c256_i32
  v90
def k0_off13 (i : grid0.Coords) : Fin 3 → Nat :=
  let c0_48 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32 : BitVec 32 := 256#32
  let v90 : BitVec 32 := Scalar.muli v89 c256_i32
  let v91 : BitVec 32 := v90
  let v92 : Index := Scalar.indexCast v91
  let c0_49 : Index := 0#32
  ![0, v92.toNat, 0]
def k0_mult26 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32_54 : BitVec 32 := 256#32
  let v98 : BitVec 32 := Scalar.muli v89 c256_i32_54
  v98
def k0_off14 (i : grid0.Coords) : Fin 3 → Nat :=
  let c0_55 : Index := 0#32
  let c0_56 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32_54 : BitVec 32 := 256#32
  let v98 : BitVec 32 := Scalar.muli v89 c256_i32_54
  let v99 : BitVec 32 := v98
  let v100 : Index := Scalar.indexCast v99
  ![0, 0, v100.toNat]
def k0_off15 (i : grid0.Coords) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let v110 : Index := Scalar.indexCast v89
  let c0_58 : Index := 0#32
  let c0_59 : Index := 0#32
  ![v110.toNat, 0, 0]
def k0_cond4 (i : grid0.Coords) : BitVec 1 :=
  let arg1 : BitVec 32 := BitVec.ofNat 32 (i 1).val
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi arg1 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c1_i32_42 : BitVec 32 := 1#32
  let v79 : BitVec 1 := Scalar.cmpi .eq v33 c1_i32_42
  let v80 : BitVec 32 := Scalar.extui v79
  let c0_i32_43 : BitVec 32 := 0#32
  let v81 : BitVec 1 := Scalar.cmpi .ne v80 c0_i32_43
  v81

def k0_off16 (i : grid0.Coords) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let v92 : Index := Scalar.indexCast v89
  let c0_52 : Index := 0#32
  let c0_53 : Index := 0#32
  ![v92.toNat, 0, 0]
def k0_off17 (i : grid0.Coords) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let v98 : Index := Scalar.indexCast v89
  let c0_54 : Index := 0#32
  let c128 : Index := 128#32
  ![v98.toNat, 0, 128]
def k0_mult27 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32 : BitVec 32 := 256#32
  let v113 : BitVec 32 := Scalar.muli v89 c256_i32
  v113
def k0_off18 (i : grid0.Coords) : Fin 3 → Nat :=
  let c0_59 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32 : BitVec 32 := 256#32
  let v113 : BitVec 32 := Scalar.muli v89 c256_i32
  let v114 : BitVec 32 := v113
  let v115 : Index := Scalar.indexCast v114
  let c0_60 : Index := 0#32
  ![0, v115.toNat, 0]
def k0_mult28 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_62 : BitVec 32 := 0#32
  let v119 : BitVec 32 := Scalar.addi v88 c0_i32_62
  let c256_i32_63 : BitVec 32 := 256#32
  let v120 : BitVec 32 := Scalar.muli v119 c256_i32_63
  v120
def k0_off19 (i : grid0.Coords) (c0_i32_62 : BitVec 32) : Fin 3 → Nat :=
  let c0_64 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let c256_i32_63 : BitVec 32 := 256#32
  let v120 : BitVec 32 := Scalar.muli v119 c256_i32_63
  let v121 : BitVec 32 := v120
  let v122 : Index := Scalar.indexCast v121
  let c0_65 : Index := 0#32
  ![0, v122.toNat, 0]
def k0_mult29 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_62 : BitVec 32 := 0#32
  let v119 : BitVec 32 := Scalar.addi v88 c0_i32_62
  let c256_i32_70 : BitVec 32 := 256#32
  let v128 : BitVec 32 := Scalar.muli v119 c256_i32_70
  v128
def k0_off20 (i : grid0.Coords) (c0_i32_62 : BitVec 32) : Fin 3 → Nat :=
  let c0_71 : Index := 0#32
  let c0_72 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let c256_i32_70 : BitVec 32 := 256#32
  let v128 : BitVec 32 := Scalar.muli v119 c256_i32_70
  let v129 : BitVec 32 := v128
  let v130 : Index := Scalar.indexCast v129
  ![0, 0, v130.toNat]
def k0_off21 (i : grid0.Coords) (c0_i32_62 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let v135 : Index := Scalar.indexCast v119
  let c0_73 : Index := 0#32
  let c0_74 : Index := 0#32
  ![v135.toNat, 0, 0]
def k0_mult30 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_79 : BitVec 32 := 1#32
  let v147 : BitVec 32 := Scalar.addi v88 c1_i32_79
  let c256_i32_80 : BitVec 32 := 256#32
  let v148 : BitVec 32 := Scalar.muli v147 c256_i32_80
  v148
def k0_mult31 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_79 : BitVec 32 := 1#32
  let v147 : BitVec 32 := Scalar.addi v88 c1_i32_79
  let c256_i32_87 : BitVec 32 := 256#32
  let v156 : BitVec 32 := Scalar.muli v147 c256_i32_87
  v156
def k0_cond5 (i : grid0.Coords) : BitVec 1 :=
  let arg1 : BitVec 32 := BitVec.ofNat 32 (i 1).val
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi arg1 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32 : BitVec 32 := 2#32
  let v82 : BitVec 1 := Scalar.cmpi .eq v33 c2_i32
  let v83 : BitVec 32 := Scalar.extui v82
  let c0_i32_44 : BitVec 32 := 0#32
  let v84 : BitVec 1 := Scalar.cmpi .ne v83 c0_i32_44
  v84

def k0_off22 (i : grid0.Coords) (c0_i32_47 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v89 : BitVec 32 := Scalar.addi v88 c0_i32_47
  let v92 : Index := Scalar.indexCast v89
  let c0_52 : Index := 0#32
  let c0_53 : Index := 0#32
  ![v92.toNat, 0, 0]
def k0_off23 (i : grid0.Coords) (c0_i32_47 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v89 : BitVec 32 := Scalar.addi v88 c0_i32_47
  let v98 : Index := Scalar.indexCast v89
  let c0_54 : Index := 0#32
  let c128 : Index := 128#32
  ![v98.toNat, 0, 128]
def k0_mult32 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32 : BitVec 32 := 256#32
  let v113 : BitVec 32 := Scalar.muli v89 c256_i32
  v113
def k0_off24 (i : grid0.Coords) (c0_i32_47 : BitVec 32) : Fin 3 → Nat :=
  let c0_59 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v89 : BitVec 32 := Scalar.addi v88 c0_i32_47
  let c256_i32 : BitVec 32 := 256#32
  let v113 : BitVec 32 := Scalar.muli v89 c256_i32
  let v114 : BitVec 32 := v113
  let v115 : Index := Scalar.indexCast v114
  let c0_60 : Index := 0#32
  ![0, v115.toNat, 0]
def k0_mult33 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_62 : BitVec 32 := 0#32
  let v119 : BitVec 32 := Scalar.addi v88 c0_i32_62
  let c256_i32_63 : BitVec 32 := 256#32
  let v120 : BitVec 32 := Scalar.muli v119 c256_i32_63
  v120
def k0_off25 (i : grid0.Coords) (c0_i32_62 : BitVec 32) : Fin 3 → Nat :=
  let c0_64 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let c256_i32_63 : BitVec 32 := 256#32
  let v120 : BitVec 32 := Scalar.muli v119 c256_i32_63
  let v121 : BitVec 32 := v120
  let v122 : Index := Scalar.indexCast v121
  let c0_65 : Index := 0#32
  ![0, v122.toNat, 0]
def k0_mult34 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_62 : BitVec 32 := 0#32
  let v119 : BitVec 32 := Scalar.addi v88 c0_i32_62
  let c256_i32_70 : BitVec 32 := 256#32
  let v128 : BitVec 32 := Scalar.muli v119 c256_i32_70
  v128
def k0_off26 (i : grid0.Coords) (c0_i32_62 : BitVec 32) : Fin 3 → Nat :=
  let c0_71 : Index := 0#32
  let c0_72 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let c256_i32_70 : BitVec 32 := 256#32
  let v128 : BitVec 32 := Scalar.muli v119 c256_i32_70
  let v129 : BitVec 32 := v128
  let v130 : Index := Scalar.indexCast v129
  ![0, 0, v130.toNat]
def k0_off27 (i : grid0.Coords) (c0_i32_62 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let v135 : Index := Scalar.indexCast v119
  let c0_73 : Index := 0#32
  let c0_74 : Index := 0#32
  ![v135.toNat, 0, 0]
def k0_mult35 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_79 : BitVec 32 := 1#32
  let v147 : BitVec 32 := Scalar.addi v88 c1_i32_79
  let c256_i32_92 : BitVec 32 := 256#32
  let v171 : BitVec 32 := Scalar.muli v147 c256_i32_92
  v171
def k0_mult36 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_96 : BitVec 32 := 1#32
  let v178 : BitVec 32 := Scalar.addi v88 c1_i32_96
  let c256_i32_97 : BitVec 32 := 256#32
  let v179 : BitVec 32 := Scalar.muli v178 c256_i32_97
  v179
def k0_mult37 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_96 : BitVec 32 := 1#32
  let v178 : BitVec 32 := Scalar.addi v88 c1_i32_96
  let c256_i32_104 : BitVec 32 := 256#32
  let v187 : BitVec 32 := Scalar.muli v178 c256_i32_104
  v187
def k0_mult38 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c2_i32_113 : BitVec 32 := 2#32
  let v206 : BitVec 32 := Scalar.addi v88 c2_i32_113
  let c256_i32_114 : BitVec 32 := 256#32
  let v207 : BitVec 32 := Scalar.muli v206 c256_i32_114
  v207
def k0_mult39 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c2_i32_113 : BitVec 32 := 2#32
  let v206 : BitVec 32 := Scalar.addi v88 c2_i32_113
  let c256_i32_121 : BitVec 32 := 256#32
  let v215 : BitVec 32 := Scalar.muli v206 c256_i32_121
  v215
def k0_cond6 (i : grid0.Coords) : BitVec 1 :=
  let arg1 : BitVec 32 := BitVec.ofNat 32 (i 1).val
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi arg1 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c3_i32 : BitVec 32 := 3#32
  let v85 : BitVec 1 := Scalar.cmpi .eq v33 c3_i32
  let v86 : BitVec 32 := Scalar.extui v85
  let c0_i32_45 : BitVec 32 := 0#32
  let v87 : BitVec 1 := Scalar.cmpi .ne v86 c0_i32_45
  v87

def k0_off28 (i : grid0.Coords) (c0_i32_47 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v89 : BitVec 32 := Scalar.addi v88 c0_i32_47
  let v92 : Index := Scalar.indexCast v89
  let c0_52 : Index := 0#32
  let c0_53 : Index := 0#32
  ![v92.toNat, 0, 0]
def k0_off29 (i : grid0.Coords) (c0_i32_47 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v89 : BitVec 32 := Scalar.addi v88 c0_i32_47
  let v98 : Index := Scalar.indexCast v89
  let c0_54 : Index := 0#32
  let c128 : Index := 128#32
  ![v98.toNat, 0, 128]
def k0_mult40 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_47 : BitVec 32 := 0#32
  let v89 : BitVec 32 := Scalar.addi v88 c0_i32_47
  let c256_i32 : BitVec 32 := 256#32
  let v113 : BitVec 32 := Scalar.muli v89 c256_i32
  v113
def k0_off30 (i : grid0.Coords) (c0_i32_47 : BitVec 32) : Fin 3 → Nat :=
  let c0_59 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v89 : BitVec 32 := Scalar.addi v88 c0_i32_47
  let c256_i32 : BitVec 32 := 256#32
  let v113 : BitVec 32 := Scalar.muli v89 c256_i32
  let v114 : BitVec 32 := v113
  let v115 : Index := Scalar.indexCast v114
  let c0_60 : Index := 0#32
  ![0, v115.toNat, 0]
def k0_mult41 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_62 : BitVec 32 := 0#32
  let v119 : BitVec 32 := Scalar.addi v88 c0_i32_62
  let c256_i32_63 : BitVec 32 := 256#32
  let v120 : BitVec 32 := Scalar.muli v119 c256_i32_63
  v120
def k0_off31 (i : grid0.Coords) (c0_i32_62 : BitVec 32) : Fin 3 → Nat :=
  let c0_64 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let c256_i32_63 : BitVec 32 := 256#32
  let v120 : BitVec 32 := Scalar.muli v119 c256_i32_63
  let v121 : BitVec 32 := v120
  let v122 : Index := Scalar.indexCast v121
  let c0_65 : Index := 0#32
  ![0, v122.toNat, 0]
def k0_mult42 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c0_i32_62 : BitVec 32 := 0#32
  let v119 : BitVec 32 := Scalar.addi v88 c0_i32_62
  let c256_i32_70 : BitVec 32 := 256#32
  let v128 : BitVec 32 := Scalar.muli v119 c256_i32_70
  v128
def k0_off32 (i : grid0.Coords) (c0_i32_62 : BitVec 32) : Fin 3 → Nat :=
  let c0_71 : Index := 0#32
  let c0_72 : Index := 0#32
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let c256_i32_70 : BitVec 32 := 256#32
  let v128 : BitVec 32 := Scalar.muli v119 c256_i32_70
  let v129 : BitVec 32 := v128
  let v130 : Index := Scalar.indexCast v129
  ![0, 0, v130.toNat]
def k0_off33 (i : grid0.Coords) (c0_i32_62 : BitVec 32) : Fin 3 → Nat :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let v119 : BitVec 32 := Scalar.addi v88 c0_i32_62
  let v135 : Index := Scalar.indexCast v119
  let c0_73 : Index := 0#32
  let c0_74 : Index := 0#32
  ![v135.toNat, 0, 0]
def k0_mult43 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_79 : BitVec 32 := 1#32
  let v147 : BitVec 32 := Scalar.addi v88 c1_i32_79
  let c256_i32_92 : BitVec 32 := 256#32
  let v171 : BitVec 32 := Scalar.muli v147 c256_i32_92
  v171
def k0_mult44 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_96 : BitVec 32 := 1#32
  let v178 : BitVec 32 := Scalar.addi v88 c1_i32_96
  let c256_i32_97 : BitVec 32 := 256#32
  let v179 : BitVec 32 := Scalar.muli v178 c256_i32_97
  v179
def k0_mult45 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c1_i32_96 : BitVec 32 := 1#32
  let v178 : BitVec 32 := Scalar.addi v88 c1_i32_96
  let c256_i32_104 : BitVec 32 := 256#32
  let v187 : BitVec 32 := Scalar.muli v178 c256_i32_104
  v187
def k0_mult46 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c2_i32_113 : BitVec 32 := 2#32
  let v206 : BitVec 32 := Scalar.addi v88 c2_i32_113
  let c256_i32_126 : BitVec 32 := 256#32
  let v230 : BitVec 32 := Scalar.muli v206 c256_i32_126
  v230
def k0_mult47 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c2_i32_130 : BitVec 32 := 2#32
  let v237 : BitVec 32 := Scalar.addi v88 c2_i32_130
  let c256_i32_131 : BitVec 32 := 256#32
  let v238 : BitVec 32 := Scalar.muli v237 c256_i32_131
  v238
def k0_mult48 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c2_i32_130 : BitVec 32 := 2#32
  let v237 : BitVec 32 := Scalar.addi v88 c2_i32_130
  let c256_i32_138 : BitVec 32 := 256#32
  let v246 : BitVec 32 := Scalar.muli v237 c256_i32_138
  v246
def k0_mult49 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c3_i32_147 : BitVec 32 := 3#32
  let v265 : BitVec 32 := Scalar.addi v88 c3_i32_147
  let c256_i32_148 : BitVec 32 := 256#32
  let v266 : BitVec 32 := Scalar.muli v265 c256_i32_148
  v266
def k0_mult50 (i : grid0.Coords) : BitVec 32 :=
  let arg1 : BitVec 32 := BitVec.ofNat 32 (i 1).val
  let c0_i32_2 : BitVec 32 := 0#32
  let v8 : BitVec 1 := Scalar.cmpi .sgt arg1 c0_i32_2
  let v9 : BitVec 32 := Scalar.extui v8
  let c0_i32_3 : BitVec 32 := 0#32
  let v10 : BitVec 1 := Scalar.cmpi .slt arg1 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg1 c4_i32
  let c0_i32_6 : BitVec 32 := 0#32
  let v20 : BitVec 1 := Scalar.cmpi .ne v19 c0_i32_6
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c4_i32_46 : BitVec 32 := 4#32
  let v88 : BitVec 32 := Scalar.muli v23 c4_i32_46
  let c3_i32_147 : BitVec 32 := 3#32
  let v265 : BitVec 32 := Scalar.addi v88 c3_i32_147
  let c256_i32_155 : BitVec 32 := 256#32
  let v274 : BitVec 32 := Scalar.muli v265 c256_i32_155
  v274
def k0_cond7 (i : grid0.Coords) : BitVec 1 :=
  let arg1 : BitVec 32 := BitVec.ofNat 32 (i 1).val
  let c128_i32_14 : BitVec 32 := 128#32
  let v37 : BitVec 1 := Scalar.cmpi .eq arg1 c128_i32_14
  let v38 : BitVec 32 := Scalar.extui v37
  let c0_i32_15 : BitVec 32 := 0#32
  let v39 : BitVec 1 := Scalar.cmpi .ne v38 c0_i32_15
  v39

@[reducible] def k0_t3_loop : Scf.Loop 32 :=
  let c0_i32_35 : BitVec 32 := 0#32
  let c128_i32_36 : BitVec 32 := 128#32
  let v69 : BitVec 32 := Scalar.addi c0_i32_35 c128_i32_36
  let c1_i32_37 : BitVec 32 := 1#32
  ⟨c0_i32_35, v69, c1_i32_37⟩
def k0_off34 (k0_t3 : Fin k0_t3_loop.trips) : Fin 3 → Nat :=
  let c0_i32_35 : BitVec 32 := 0#32
  let c1_i32_37 : BitVec 32 := 1#32
  let arg15 : BitVec 32 := Scf.iv c0_i32_35 c1_i32_37 k0_t3
  let v72 : Index := Scalar.indexCast arg15
  let c0_43 : Index := 0#32
  let c0_44 : Index := 0#32
  ![v72.toNat, 0, 0]
def k0_off35 (k0_t3 : Fin k0_t3_loop.trips) : Fin 3 → Nat :=
  let c0_i32_35 : BitVec 32 := 0#32
  let c1_i32_37 : BitVec 32 := 1#32
  let arg15 : BitVec 32 := Scf.iv c0_i32_35 c1_i32_37 k0_t3
  let v78 : Index := Scalar.indexCast arg15
  let c0_45 : Index := 0#32
  let c128 : Index := 128#32
  ![v78.toNat, 0, 128]
def k0_mult51 (k0_t3 : Fin k0_t3_loop.trips) : BitVec 32 :=
  let c0_i32_35 : BitVec 32 := 0#32
  let c1_i32_37 : BitVec 32 := 1#32
  let arg15 : BitVec 32 := Scf.iv c0_i32_35 c1_i32_37 k0_t3
  let c256_i32 : BitVec 32 := 256#32
  let v93 : BitVec 32 := Scalar.muli arg15 c256_i32
  v93
def k0_off36 (k0_t3 : Fin k0_t3_loop.trips) : Fin 3 → Nat :=
  let c0_50 : Index := 0#32
  let c0_i32_35 : BitVec 32 := 0#32
  let c1_i32_37 : BitVec 32 := 1#32
  let arg15 : BitVec 32 := Scf.iv c0_i32_35 c1_i32_37 k0_t3
  let c256_i32 : BitVec 32 := 256#32
  let v93 : BitVec 32 := Scalar.muli arg15 c256_i32
  let v94 : BitVec 32 := v93
  let v95 : Index := Scalar.indexCast v94
  let c0_51 : Index := 0#32
  ![0, v95.toNat, 0]
def k0_cond8 (i : grid0.Coords) : BitVec 1 :=
  let arg1 : BitVec 32 := BitVec.ofNat 32 (i 1).val
  let c0_i32_16 : BitVec 32 := 0#32
  let v40 : BitVec 1 := Scalar.cmpi .sgt arg1 c0_i32_16
  let v41 : BitVec 32 := Scalar.extui v40
  let c0_i32_17 : BitVec 32 := 0#32
  let v42 : BitVec 1 := Scalar.cmpi .ne v41 c0_i32_17
  v42

def k0_off37 (i : grid0.Coords) : Fin 1 → Nat :=
  let arg0 : BitVec 32 := BitVec.ofNat 32 (i 0).val
  let v73 : Index := Scalar.indexCast arg0
  ![v73.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x32768x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x32768x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16 : Shape := ⟨1, ![16]⟩
abbrev S16x32768x256 : Shape := ⟨3, ![16, 32768, 256]⟩
abbrev S16x1x32768 : Shape := ⟨3, ![16, 1, 32768]⟩
abbrev S16x32768x128 : Shape := ⟨3, ![16, 32768, 128]⟩
abbrev S16x1x1 : Shape := ⟨3, ![16, 1, 1]⟩
abbrev S16x32768x1 : Shape := ⟨3, ![16, 32768, 1]⟩
abbrev S16x32768x32768 : Shape := ⟨3, ![16, 32768, 32768]⟩
abbrev S16x32768 : Shape := ⟨2, ![16, 32768]⟩

abbrev nBuf : Space → Nat
  | .hbm => 9
  | .vmem => 7
  | .smem => 0
  | _ => 0

abbrev bufTy : (tb : Table) → Fin (tcTables nBuf tb) → BufTy
  | .hbm, ⟨0, _⟩ => ⟨S16, .f32⟩
  | .hbm, ⟨1, _⟩ => ⟨S16x32768x256, .fp8e4m3⟩
  | .hbm, ⟨2, _⟩ => ⟨S16x1x32768, .f32⟩
  | .hbm, ⟨3, _⟩ => ⟨S16x32768x256, .fp8e4m3⟩
  | .hbm, ⟨4, _⟩ => ⟨S16x1x32768, .f32⟩
  | .hbm, ⟨5, _⟩ => ⟨S16x32768x128, .fp8e4m3⟩
  | .hbm, ⟨6, _⟩ => ⟨S16x1x1, .f32⟩
  | .hbm, ⟨7, _⟩ => ⟨S16x32768x1, .f32⟩
  | .hbm, ⟨8, _⟩ => ⟨S16x32768x128, .bf16⟩
  | .local _ .vmem, ⟨0, _⟩ => ⟨S16x1x1, .f32⟩
  | .local _ .vmem, ⟨1, _⟩ => ⟨S16x32768x256, .fp8e4m3⟩
  | .local _ .vmem, ⟨2, _⟩ => ⟨S16x32768x1, .f32⟩
  | .local _ .vmem, ⟨3, _⟩ => ⟨S16x32768x256, .fp8e4m3⟩
  | .local _ .vmem, ⟨4, _⟩ => ⟨S16x1x32768, .f32⟩
  | .local _ .vmem, ⟨5, _⟩ => ⟨S16x32768x128, .fp8e4m3⟩
  | .local _ .vmem, ⟨6, _⟩ => ⟨S16x32768x128, .bf16⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x32768x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32768x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x32768x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x32768x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.K.Rules.lean ====
/-
  Loads and stores of a memref owned at known contents: a load through a unit rectangle reads the window of the
  contents there, a store leaves the contents with the payload put over the window.
-/
module

public import proofs.«01_k».proof.Proof.Gen.KernelIdeal
public import proofs.«01_k».proof.Proof.Gen.KernelIdeal.Frame
public import Idealize.ShloMosaic.Lib.VecWindow

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱 : Variants) (c : Dev nD) (bd : Option 𝒱.V) (E : Set ℕ) {α : Type}
variable {Q : α → sProp (MT nD τ sig Unit (Elt F) ℕ (UR sig nD τ) ℕ)}
variable {cs : CoreSpace} {s : Shape} {e : EltTy}

/-- A load through a unit rectangle reads the window of the owned contents. -/
theorem load_owns {m : Memref sig .tc cs s e} {off off' size : Fin s.rank → ℕ} {inb : ∀ a, off a + size a ≤ s.size a}
    {hl : m.view.LoadsAt (Rect.unit off size inb).toLoadRect}
    {k : ((Rect.unit off size inb).shape.Idx → Elt F e) → Prog (TpuEff nD τ sig (Elt F) Λ₀ .tc) α} {q : PosShare TreeShare} {X : s.Idx → Elt F e}
    (h : off = off') (inb' : ∀ a, off' a + size a ≤ s.size a) :
    (owns (c : Thread nD τ) m q X : sProp 𝕄)
      ⊢ iprop((owns (c : Thread nD τ) m q X -∗ wp frame (wpE (defs₀ (F := F)) 𝒱 (c : Thread nD τ) bd) E (k (VecWindow.window X off' size inb')) Q)
        -∗ wp frame (wpE (defs₀ (F := F)) 𝒱 (c : Thread nD τ) bd) E (.op (.load m (Rect.unit off size inb).toLoadRect hl) k) Q) := by
  iintro H Hk
  unfold owns
  icases H with ⟨%f, %hf, H⟩
  have hld := wp_load (defs := defs₀ (F := F)) (Γ := .empty) (Q := Q) 𝒱 (c : Thread nD τ) bd E (m := m) (hl := hl) (k := k) (q := q) (f := f) (m.view.setOn_subset_set _)
  iapply hld $$ H
  iintro H
  rw [View.readAt_unit m.view f inb h inb', hf]
  iapply Hk
  iexists f
  isplitr
  · ipureintro; exact hf
  · iexact H

/-- A load of the memref's own sizes reads the owned contents. -/
theorem load_owns_full {m : Memref sig .tc cs s e} {off : Fin s.rank → ℕ} {inb : ∀ a, off a + s.size a ≤ s.size a}
    {hl : m.view.LoadsAt (Rect.unit off s.size inb).toLoadRect}
    {k : (s.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wp frame (wpE (defs₀ (F := F)) 𝒱 (c : Thread nD τ) bd) E (k X) Q)
        -∗ wp frame (wpE (defs₀ (F := F)) 𝒱 (c : Thread nD τ) bd) E (.op (.load m (Rect.unit off s.size inb).toLoadRect hl) k) Q) := by
  iintro H Hk
  unfold owns
  icases H with ⟨%f, %hf, H⟩
  have hld := wp_load (defs := defs₀ (F := F)) (Γ := .empty) (Q := Q) 𝒱 (c : Thread nD τ) bd E (m := m) (hl := hl) (k := k) (q := q) (f := f) (m.view.setOn_subset_set _)
  iapply hld $$ H
  iintro H
  rw [View.readAt_full m.view f inb, hf]
  iapply Hk
  iexists f
  isplitr
  · ipureintro; exact hf
  · iexact H

/-- A store through a unit rectangle puts the payload over the window. -/
theorem store_owns {m : Memref sig .tc cs s e} {off off' size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {X : s.Idx → Elt F e} (h : off = off') :
    (owns (c : Thread nD τ) m fullShare X : sProp 𝕄)
      ⊢ iprop((owns (c : Thread nD τ) m fullShare (VecWindow.put X off' size w) -∗ wp frame (wpE (defs₀ (F := F)) 𝒱 (c : Thread nD τ) bd) E (k ⟨⟩) Q)
        -∗ wp frame (wpE (defs₀ (F := F)) 𝒱 (c : Thread nD τ) bd) E (.op (.store m (Rect.unit off size inb) w Finset.univ hx hm) k) Q) := by
  iintro H Hk
  unfold owns
  icases H with ⟨%f, %hf, H⟩
  have hst := wp_store (defs := defs₀ (F := F)) (Γ := .empty) (Q := Q) 𝒱 (c : Thread nD τ) bd E (m := m) (w := w) (hx := hx) (hm := hm) (k := k) (f := f) (Memref.setOn_access_subset m _ _)
  iapply hst $$ H
  iintro H
  iapply Hk
  iexists (m.access (Rect.unit off size inb)).write (Elt F) f w Finset.univ
  isplitr
  · ipureintro
    have := View.read_writes_cons_put m.view f inb w [] h
    rw [View.writes_nil, hf] at this
    exact this
  · iexact H

/-- A store of the memref's own sizes leaves the payload. -/
theorem store_owns_full {m : Memref sig .tc cs s e} {off : Fin s.rank → ℕ} {inb : ∀ a, off a + s.size a ≤ s.size a}
    {w : s.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare w -∗ wp frame (wpE (defs₀ (F := F)) 𝒱 (c : Thread nD τ) bd) E (k ⟨⟩) Q)
        -∗ wp frame (wpE (defs₀ (F := F)) 𝒱 (c : Thread nD τ) bd) E (.op (.store m (Rect.unit off s.size inb) w Finset.univ hx hm) k) Q) := by
  iintro H Hk
  unfold owns
  icases H with ⟨%f, %hf, H⟩
  have hst := wp_store (defs := defs₀ (F := F)) (Γ := .empty) (Q := Q) 𝒱 (c : Thread nD τ) bd E (m := m) (w := w) (hx := hx) (hm := hm) (k := k) (f := f) (Memref.setOn_access_subset m _ _)
  iapply hst $$ H
  iintro H
  iapply Hk
  iexists (m.access (Rect.unit off s.size inb)).write (Elt F) f w Finset.univ
  isplitr
  · ipureintro
    exact View.read_writes_full m.view f inb w []
  · iexact H

end Cert.Proof.K

end
-- ==== Proof.K.Steps.lean ====
/-
  The kernel's three repeated pieces of code, each written once: the value pass over one key block, the score pass over
  one key block, and the accumulation into the output accumulator — with the functions they compute and their rules.
-/
module

public import proofs.«01_k».proof.Proof.K.Rules

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the pieces compute -/

/-- One half (128 lanes) of a block of scores turned to unnormalised probabilities: `exp2 (s · c − m)`. -/
def expHalf (s : Vec F S1x256x128 .f32) (cc mm : Vec F S256x128 .f32) : FVec F S256x128 .f32 :=
  exp2 (subf (mulf (shapeCast S256x128 s shapeCasts_S1x256x128_S256x128) cc) mm)

/-- The row sums, folded onto 128 lanes, with one more block's probabilities. -/
def sumStep (sm a b : FVec F S256x128 .f32) : FVec F S256x128 .f32 := addf sm (addf a b)

/-- One block's probabilities, rounded to fp8, times its block of values. -/
def pvBlock (a b : FVec F S256x128 .f32) (vb : Vec F S1x256x128 .fp8e4m3) : FVec F S256x128 .f32 :=
  matmul dot_S256x256_S256x128_S256x128_1_0_0_1_n_n none
    (concatenate S256x256 1 [⟨S256x128, truncf .fp8e4m3 a bitsLt_fp8e4m3_f32⟩, ⟨S256x128, truncf .fp8e4m3 b bitsLt_fp8e4m3_f32⟩]
      concatenates_S256x128_S256x128_S256x256_d1)
    (shapeCast S256x128 vb shapeCasts_S1x256x128_S256x128) (constant S256x128 .f32 0x00000000#32)

/-- One block of scores: queries times keys, each key column by its scale. -/
def scoreBlock (q kb : Vec F S1x256x256 .fp8e4m3) (ks : Vec F S1x1x256 .f32) : FVec F S256x256 .f32 :=
  mulf (matmul dot_S256x256_S256x256_S256x256_1_1_0_0_n_n none (shapeCast S256x256 q shapeCasts_S1x256x256_S256x256)
      (shapeCast S256x256 kb shapeCasts_S1x256x256_S256x256) (constant S256x256 .f32 0x00000000#32))
    (broadcastTo S256x256 (shapeCast S1x256 ks shapeCasts_S1x1x256_S1x256) broadcasts_S1x256_S256x256)

/-- The diagonal block's mask: columns after the row hold −∞. -/
def diagMask (x : FVec F S256x256 .f32) : FVec F S256x256 .f32 :=
  select (cmpi .sle (iota .tc S256x256 32 [1] iota_S256x256_d1_w32) (iota .tc S256x256 32 [0] iota_S256x256_d0_w32)) x
    (broadcast S256x256 (Scalar.ofBits .f32 0xFF800000#32))

/-- The running row maxima, folded onto 128 lanes, with one more block of scores. -/
def maxStep (mx : FVec F S256x128 .f32) (x : FVec F S256x256 .f32) : FVec F S256x128 .f32 :=
  maximumf mx (maximumf (extractStridedSlice S256x128 ![0, 0] x slices_S256x256_o0_0_S256x128)
    (extractStridedSlice S256x128 ![0, 128] x slices_S256x256_o0_128_S256x128))

/-! ## The pieces of code -/

/-- A full load of a 256×128 scratch buffer. -/
def ldFull (a : Memref sig .tc .vmem S256x128 .f32) : Prog (TpuEff nD τ sig (Elt F) Λ₀ .tc) (Vec F S256x128 .f32) :=
  Prog.lift (.load a (Rect.unit (s := S256x128) ![0, 0] S256x128.size inb_S256x128_S256x128_0_0).toLoadRect (View.loadsAt_vmem h_S256x128))

/-- A full store of a 256×128 scratch buffer, after the load the store is printed with. -/
def stFull (a : Memref sig .tc .vmem S256x128 .f32) (w : FVec F S256x128 .f32) : Prog (TpuEff nD τ sig (Elt F) Λ₀ .tc) PUnit := do
  let _ ← ldFull a
  Prog.lift (.store a (Rect.unit (s := S256x128) ![0, 0] S256x128.size inb_S256x128_S256x128_0_0)
    (shapeCast S256x128 w shapeCasts_S256x128_S256x128) Finset.univ (View.stores_vmem_bits_univ h_S256x128 rfl) (.inl rfl))

/-- The value pass over one key block: its probabilities are added to the row sums, their product with the values returned. -/
def valuesP (arg7 : Memref sig .tc .vmem S1x32768x128 .fp8e4m3) (arg9 : Memref sig .tc .vmem S128x256x256 .f32)
    (arg11 arg12 arg13 : Memref sig .tc .vmem S256x128 .f32) (o1 o2 o3 : Fin 3 → Nat)
    (h1 : ∀ a, o1 a + S1x256x128.size a ≤ S128x256x256.size a) (h2 : ∀ a, o2 a + S1x256x128.size a ≤ S128x256x256.size a)
    (h3 : ∀ a, o3 a + S1x256x128.size a ≤ S1x32768x128.size a) :
    Prog (TpuEff nD τ sig (Elt F) Λ₀ .tc) (FVec F S256x128 .f32) := do
  let cc ← ldFull arg12
  let mm ← ldFull arg11
  let s0 : Vec F S1x256x128 .f32 ← Prog.lift (.load arg9 (Rect.unit (s := S128x256x256) o1 S1x256x128.size h1).toLoadRect (View.loadsAt_vmem h_S1x256x128))
  let s1 : Vec F S1x256x128 .f32 ← Prog.lift (.load arg9 (Rect.unit (s := S128x256x256) o2 S1x256x128.size h2).toLoadRect (View.loadsAt_vmem h_S1x256x128))
  let sm ← ldFull arg13
  stFull arg13 (sumStep sm (expHalf s0 cc mm) (expHalf s1 cc mm))
  let vb : Vec F S1x256x128 .fp8e4m3 ← Prog.lift (.load arg7 (Rect.unit (s := S1x32768x128) o3 S1x256x128.size h3).toLoadRect (View.loadsAt_vmem h_S1x256x128))
  pure (pvBlock (expHalf s0 cc mm) (expHalf s1 cc mm) vb)

/-- The score pass over one key block: the block of scores (through `f`, the mask or nothing) is kept, and the running maxima updated. -/
def scoresP (arg3 : Memref sig .tc .vmem S1x256x256 .fp8e4m3) (arg5 : Memref sig .tc .vmem S1x1x32768 .f32)
    (arg6 : Memref sig .tc .vmem S1x32768x256 .fp8e4m3) (arg9 : Memref sig .tc .vmem S128x256x256 .f32)
    (arg10 : Memref sig .tc .vmem S256x128 .f32) (f : FVec F S256x256 .f32 → FVec F S256x256 .f32) (o4 o5 o6 : Fin 3 → Nat)
    (h4 : ∀ a, o4 a + S1x256x256.size a ≤ S1x32768x256.size a) (h5 : ∀ a, o5 a + S1x1x256.size a ≤ S1x1x32768.size a)
    (h6 : ∀ a, o6 a + S1x256x256.size a ≤ S128x256x256.size a) :
    Prog (TpuEff nD τ sig (Elt F) Λ₀ .tc) PUnit := do
  let kb : Vec F S1x256x256 .fp8e4m3 ← Prog.lift (.load arg6 (Rect.unit (s := S1x32768x256) o4 S1x256x256.size h4).toLoadRect (View.loadsAt_vmem h_S1x256x256))
  let q : Vec F S1x256x256 .fp8e4m3 ← Prog.lift (.load arg3 (Rect.unit (s := S1x256x256) ![0, 0, 0] S1x256x256.size inb_S1x256x256_S1x256x256_0_0_0).toLoadRect (View.loadsAt_vmem h_S1x256x256))
  let ks : Vec F S1x1x256 .f32 ← Prog.lift (.load arg5 (Rect.unit (s := S1x1x32768) o5 S1x1x256.size h5).toLoadRect (View.loadsAt_vmem h_S1x1x256))
  let _ : Vec F S1x256x256 .f32 ← Prog.lift (.load arg9 (Rect.unit (s := S128x256x256) o6 S1x256x256.size h6).toLoadRect (View.loadsAt_vmem h_S1x256x256))
  Prog.lift (.store arg9 (Rect.unit (s := S128x256x256) o6 S1x256x256.size h6)
    (shapeCast S1x256x256 (f (scoreBlock q kb ks)) shapeCasts_S256x256_S1x256x256) Finset.univ (View.stores_vmem_bits_univ h_S1x256x256 rfl) (.inl rfl))
  let mx ← ldFull arg10
  stFull arg10 (maxStep mx (f (scoreBlock q kb ks)))

/-- The output accumulator with `x` added. -/
def accP (arg14 : Memref sig .tc .vmem S256x128 .f32) (x : FVec F S256x128 .f32) : Prog (TpuEff nD τ sig (Elt F) Λ₀ .tc) PUnit := do
  let a ← ldFull arg14
  stFull arg14 (addf a x)

end Cert.Proof.K

end
-- ==== Proof.K.State.lean ====
/-
  What the scratch buffers hold inside one pass, and how the three pieces of code change it.

  A pass of query block `g` overwrites, block by block, the scores `P` of the query block before with its own scores `T`;
  before a block of `P` is overwritten it has been turned into probabilities and multiplied with its values.
-/
module

public import proofs.«01_k».proof.Proof.K.Steps
public import Idealize.ShloMosaic.Lib.Pipeline.Value

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Blocks of the operands -/

theorem keys_inb (j : ℕ) : ∀ a, (![0, 256 * (j % 128), 0] : Fin 3 → ℕ) a + S1x256x256.size a ≤ S1x32768x256.size a := by
  have : j % 128 < 128 := Nat.mod_lt _ (by decide)
  intro a; match a with
  | 0 => show 0 + 1 ≤ 1; omega
  | 1 => show 256 * (j % 128) + 256 ≤ 32768; omega
  | 2 => show 0 + 256 ≤ 256; omega
theorem vals_inb (j : ℕ) : ∀ a, (![0, 256 * (j % 128), 0] : Fin 3 → ℕ) a + S1x256x128.size a ≤ S1x32768x128.size a := by
  have : j % 128 < 128 := Nat.mod_lt _ (by decide)
  intro a; match a with
  | 0 => show 0 + 1 ≤ 1; omega
  | 1 => show 256 * (j % 128) + 256 ≤ 32768; omega
  | 2 => show 0 + 128 ≤ 128; omega
theorem kscale_inb (j : ℕ) : ∀ a, (![0, 0, 256 * (j % 128)] : Fin 3 → ℕ) a + S1x1x256.size a ≤ S1x1x32768.size a := by
  have : j % 128 < 128 := Nat.mod_lt _ (by decide)
  intro a; match a with
  | 0 => show 0 + 1 ≤ 1; omega
  | 1 => show 0 + 1 ≤ 1; omega
  | 2 => show 256 * (j % 128) + 256 ≤ 32768; omega
theorem slab_inb (j : ℕ) : ∀ a, (![j % 128, 0, 0] : Fin 3 → ℕ) a + S1x256x256.size a ≤ S128x256x256.size a := by
  have : j % 128 < 128 := Nat.mod_lt _ (by decide)
  intro a; match a with
  | 0 => show j % 128 + 1 ≤ 128; omega
  | 1 => show 0 + 256 ≤ 256; omega
  | 2 => show 0 + 256 ≤ 256; omega
theorem half_inb0 (j : ℕ) : ∀ a, (![j % 128, 0, 0] : Fin 3 → ℕ) a + S1x256x128.size a ≤ S128x256x256.size a := by
  have : j % 128 < 128 := Nat.mod_lt _ (by decide)
  intro a; match a with
  | 0 => show j % 128 + 1 ≤ 128; omega
  | 1 => show 0 + 256 ≤ 256; omega
  | 2 => show 0 + 128 ≤ 256; omega
theorem half_inb1 (j : ℕ) : ∀ a, (![j % 128, 0, 128] : Fin 3 → ℕ) a + S1x256x128.size a ≤ S128x256x256.size a := by
  have : j % 128 < 128 := Nat.mod_lt _ (by decide)
  intro a; match a with
  | 0 => show j % 128 + 1 ≤ 128; omega
  | 1 => show 0 + 256 ≤ 256; omega
  | 2 => show 128 + 128 ≤ 256; omega

/-- Key block `j`, -/
def keyBlk (k : Vec F S1x32768x256 .fp8e4m3) (j : ℕ) : Vec F S1x256x256 .fp8e4m3 := VecWindow.window (s := S1x32768x256) k ![0, 256 * (j % 128), 0] S1x256x256.size (keys_inb j)
/-- its scales, -/
def kscaleBlk (ks : Vec F S1x1x32768 .f32) (j : ℕ) : Vec F S1x1x256 .f32 := VecWindow.window (s := S1x1x32768) ks ![0, 0, 256 * (j % 128)] S1x1x256.size (kscale_inb j)
/-- and its values. -/
def valBlk (v : Vec F S1x32768x128 .fp8e4m3) (j : ℕ) : Vec F S1x256x128 .fp8e4m3 := VecWindow.window (s := S1x32768x128) v ![0, 256 * (j % 128), 0] S1x256x128.size (vals_inb j)

/-- The first 128 columns of a block of scores, as they lie in the scratch, -/
def half0 (x : FVec F S256x256 .f32) : Vec F S1x256x128 .f32 :=
  VecWindow.window (s := S1x256x256) (shapeCast S1x256x256 x shapeCasts_S256x256_S1x256x256) ![0, 0, 0] S1x256x128.size (by decide)
/-- and the last. -/
def half1 (x : FVec F S256x256 .f32) : Vec F S1x256x128 .f32 :=
  VecWindow.window (s := S1x256x256) (shapeCast S1x256x256 x shapeCasts_S256x256_S1x256x256) ![0, 0, 128] S1x256x128.size (by decide)

/-- The score scratch holds the block of scores `x` at `j`. -/
def Slab (SC : Vec F S128x256x256 .f32) (j : ℕ) (x : FVec F S256x256 .f32) : Prop :=
  VecWindow.window (s := S128x256x256) SC ![j % 128, 0, 0] S1x256x256.size (slab_inb j) = shapeCast S1x256x256 x shapeCasts_S256x256_S1x256x256

theorem Slab.half0 {SC : Vec F S128x256x256 .f32} {j : ℕ} {x : FVec F S256x256 .f32} (h : Slab SC j x) :
    VecWindow.window (s := S128x256x256) SC ![j % 128, 0, 0] S1x256x128.size (half_inb0 j) = half0 x := by
  unfold K.half0
  rw [← h]
  funext y
  refine congrArg SC (funext fun a => Fin.ext ?_)
  match a with
  | 0 => show j % 128 + 1 * (y 0).val = j % 128 + 1 * (0 + 1 * (y 0).val); omega
  | 1 => show 0 + 1 * (y 1).val = 0 + 1 * (0 + 1 * (y 1).val); omega
  | 2 => show 0 + 1 * (y 2).val = 0 + 1 * (0 + 1 * (y 2).val); omega

theorem Slab.half1 {SC : Vec F S128x256x256 .f32} {j : ℕ} {x : FVec F S256x256 .f32} (h : Slab SC j x) :
    VecWindow.window (s := S128x256x256) SC ![j % 128, 0, 128] S1x256x128.size (half_inb1 j) = half1 x := by
  unfold K.half1
  rw [← h]
  funext y
  refine congrArg SC (funext fun a => Fin.ext ?_)
  match a with
  | 0 => show j % 128 + 1 * (y 0).val = j % 128 + 1 * (0 + 1 * (y 0).val); omega
  | 1 => show 0 + 1 * (y 1).val = 0 + 1 * (0 + 1 * (y 1).val); omega
  | 2 => show 128 + 1 * (y 2).val = 0 + 1 * (128 + 1 * (y 2).val); omega

/-! ## What a pass computes -/

/-- What is fixed during a pass: the operands, the scores `P` of the query block before with their scales `C` and maxima `M`,
    and the query block's number `g`. -/
structure Env (F : FTy → Type) where
  q : Vec F S1x256x256 .fp8e4m3
  ks : Vec F S1x1x32768 .f32
  k : Vec F S1x32768x256 .fp8e4m3
  v : Vec F S1x32768x128 .fp8e4m3
  P : ℕ → FVec F S256x256 .f32
  C : FVec F S256x128 .f32
  M : FVec F S256x128 .f32
  g : ℕ

variable (e : Env F)

/-- The scores of query block `g` with key block `j`, masked on the diagonal. -/
def scoreOf (q : Vec F S1x256x256 .fp8e4m3) (ks : Vec F S1x1x32768 .f32) (k : Vec F S1x32768x256 .fp8e4m3) (g j : ℕ) : FVec F S256x256 .f32 :=
  if j = g then diagMask (scoreBlock q (keyBlk k j) (kscaleBlk ks j)) else scoreBlock q (keyBlk k j) (kscaleBlk ks j)

/-- The scores of this pass's query block. -/
def Env.T (j : ℕ) : FVec F S256x256 .f32 := scoreOf e.q e.ks e.k e.g j

/-- The running row maxima after the first `n` of the blocks of scores `T`. -/
def maxF (T : ℕ → FVec F S256x256 .f32) : ℕ → FVec F S256x128 .f32
  | 0 => broadcast S256x128 (Scalar.ofBits .f32 0xFF800000#32)
  | n + 1 => maxStep (maxF T n) (T n)

/-- The probabilities of the block before, first half, -/
def Env.pa (j : ℕ) : FVec F S256x128 .f32 := expHalf (half0 (e.P j)) e.C e.M
/-- second half, -/
def Env.pb (j : ℕ) : FVec F S256x128 .f32 := expHalf (half1 (e.P j)) e.C e.M
/-- and their product with the values. -/
def Env.pv (j : ℕ) : FVec F S256x128 .f32 := pvBlock (e.pa j) (e.pb j) (valBlk e.v j)

/-- The running row sums after the first `n` blocks. -/
def Env.sumF : ℕ → FVec F S256x128 .f32
  | 0 => broadcast S256x128 (Scalar.ofBits .f32 0x00000000#32)
  | n + 1 => sumStep (Env.sumF n) (e.pa n) (e.pb n)

/-- The accumulator after the first `n` chunks of four blocks, -/
def Env.accC : ℕ → FVec F S256x128 .f32
  | 0 => broadcast S256x128 (Scalar.ofBits .f32 0x00000000#32)
  | n + 1 => addf (Env.accC n) (addf (addf (addf (e.pv (4 * n)) (e.pv (4 * n + 1))) (e.pv (4 * n + 2))) (e.pv (4 * n + 3)))

/-- after the blocks left over, `r` of them from block `j` on, -/
def Env.accT (j : ℕ) (A : FVec F S256x128 .f32) : ℕ → FVec F S256x128 .f32
  | 1 => addf A (e.pv j)
  | 2 => addf A (addf (e.pv j) (e.pv (j + 1)))
  | 3 => addf A (addf (addf (e.pv j) (e.pv (j + 1))) (e.pv (j + 2)))
  | _ => A

/-- and after the first `n` blocks one at a time. -/
def Env.accL : ℕ → FVec F S256x128 .f32
  | 0 => broadcast S256x128 (Scalar.ofBits .f32 0x00000000#32)
  | n + 1 => addf (Env.accL n) (e.pv n)

/-! ## The state -/

/-- The buffers the three pieces of code work on. -/
structure Bufs where
  a3 : Memref sig .tc .vmem S1x256x256 .fp8e4m3
  a5 : Memref sig .tc .vmem S1x1x32768 .f32
  a6 : Memref sig .tc .vmem S1x32768x256 .fp8e4m3
  a7 : Memref sig .tc .vmem S1x32768x128 .fp8e4m3
  a9 : Memref sig .tc .vmem S128x256x256 .f32
  a10 : Memref sig .tc .vmem S256x128 .f32
  a11 : Memref sig .tc .vmem S256x128 .f32
  a12 : Memref sig .tc .vmem S256x128 .f32
  a13 : Memref sig .tc .vmem S256x128 .f32
  a14 : Memref sig .tc .vmem S256x128 .f32

variable (B : Bufs) (c : Dev nD)

/-- The first `a` blocks of scores are this pass's, the others the pass before's. -/
def Mix (a : ℕ) (SC : Vec F S128x256x256 .f32) : Prop :=
  (∀ l < a, l < 128 → Slab SC l (e.T l)) ∧ ∀ l, a ≤ l → l < e.g → l < 128 → Slab SC l (e.P l)

/-- The state with `a` blocks through the score pass, `b` through the value pass, and the accumulator at `A`. -/
def St (a b : ℕ) (A : FVec F S256x128 .f32) : sProp 𝕄 :=
  iprop(∃ SC, ⌜Mix e a SC⌝ ∗ owns (c : Thread nD τ) B.a9 fullShare SC
    ∗ owns (c : Thread nD τ) B.a10 fullShare (maxF e.T a) ∗ owns (c : Thread nD τ) B.a13 fullShare (e.sumF b) ∗ owns (c : Thread nD τ) B.a14 fullShare A
    ∗ owns (c : Thread nD τ) B.a11 fullShare e.M ∗ owns (c : Thread nD τ) B.a12 fullShare e.C
    ∗ owns (c : Thread nD τ) B.a3 fullShare e.q ∗ owns (c : Thread nD τ) B.a5 fullShare e.ks ∗ owns (c : Thread nD τ) B.a6 fullShare e.k
    ∗ owns (c : Thread nD τ) B.a7 fullShare e.v)

end Cert.Proof.K

end
-- ==== Proof.K.StepRules.lean ====
/-
  How the value pass, the score pass and the accumulation change the state.
-/
module

public import proofs.«01_k».proof.Proof.K.State

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱 : Variants) (c : Dev nD) (bd : Option 𝒱.V) (E : Set ℕ) {α : Type}
variable {Q : α → sProp (MT nD τ sig Unit (Elt F) ℕ (UR sig nD τ) ℕ)}

/-- A full load reads what the buffer holds. -/
theorem ldFull_rule {a : Memref sig .tc .vmem S256x128 .f32} {X : Vec F S256x128 .f32} {k : Vec F S256x128 .f32 → Prog (TpuEff nD τ sig (Elt F) Λ₀ .tc) α} :
    (owns (c : Thread nD τ) a fullShare X : sProp 𝕄)
      ⊢ iprop((owns (c : Thread nD τ) a fullShare X -∗ wp frame (wpE (defs₀ (F := F)) 𝒱 (c : Thread nD τ) bd) E (k X) Q)
        -∗ wp frame (wpE (defs₀ (F := F)) 𝒱 (c : Thread nD τ) bd) E (ldFull a >>= k) Q) :=
  load_owns_full (s := S256x128) 𝒱 c bd E

/-- A full store leaves the payload. -/
theorem stFull_rule {a : Memref sig .tc .vmem S256x128 .f32} {X w : Vec F S256x128 .f32} {k : PUnit → Prog (TpuEff nD τ sig (Elt F) Λ₀ .tc) α} :
    (owns (c : Thread nD τ) a fullShare X : sProp 𝕄)
      ⊢ iprop((owns (c : Thread nD τ) a fullShare w -∗ wp frame (wpE (defs₀ (F := F)) 𝒱 (c : Thread nD τ) bd) E (k ⟨⟩) Q)
        -∗ wp frame (wpE (defs₀ (F := F)) 𝒱 (c : Thread nD τ) bd) E (stFull a w >>= k) Q) := by
  unfold stFull
  rw [shapeCast_self, bind_assoc]
  iintro H Hk
  iapply (ldFull_rule 𝒱 c bd E) $$ H
  iintro H
  iapply (store_owns_full (s := S256x128) 𝒱 c bd E) $$ H
  iexact Hk

/-- The accumulation. -/
theorem accP_rule (e : Env F) (B : Bufs) {a b : ℕ} {A x : FVec F S256x128 .f32} {k : PUnit → Prog (TpuEff nD τ sig (Elt F) Λ₀ .tc) α} :
    (St e B c a b A : sProp 𝕄)
      ⊢ iprop((St e B c a b (addf A x) -∗ wp frame (wpE (defs₀ (F := F)) 𝒱 (c : Thread nD τ) bd) E (k ⟨⟩) Q)
        -∗ wp frame (wpE (defs₀ (F := F)) 𝒱 (c : Thread nD τ) bd) E (accP B.a14 x >>= k) Q) := by
  unfold accP St
  rw [bind_assoc]
  iintro H Hk
  icases H with ⟨%SC, %hSC, H9, H10, H13, H14, HR⟩
  iapply (ldFull_rule 𝒱 c bd E) $$ H14
  iintro H14
  iapply (stFull_rule 𝒱 c bd E) $$ H14
  iintro H14
  iapply Hk
  iexists SC
  isplitr
  · ipureintro; exact hSC
  isplitl [H9]; · iexact H9
  isplitl [H10]; · iexact H10
  isplitl [H13]; · iexact H13
  isplitl [H14]; · iexact H14
  iexact HR

/-- The value pass over block `j`, not yet overwritten: its probabilities go into the sums, its product is returned. -/
theorem valuesP_rule (e : Env F) (B : Bufs) {a j : ℕ} {A : FVec F S256x128 .f32} (haj : a ≤ j) (hjg : j < e.g) (hj : j < 128)
    {o1 o2 o3 : Fin 3 → ℕ} {h1 : ∀ a, o1 a + S1x256x128.size a ≤ S128x256x256.size a} {h2 : ∀ a, o2 a + S1x256x128.size a ≤ S128x256x256.size a}
    {h3 : ∀ a, o3 a + S1x256x128.size a ≤ S1x32768x128.size a} (e1 : o1 = ![j, 0, 0]) (e2 : o2 = ![j, 0, 128]) (e3 : o3 = ![0, 256 * j, 0])
    {k : FVec F S256x128 .f32 → Prog (TpuEff nD τ sig (Elt F) Λ₀ .tc) α} :
    (St e B c a j A : sProp 𝕄)
      ⊢ iprop((St e B c a (j + 1) A -∗ wp frame (wpE (defs₀ (F := F)) 𝒱 (c : Thread nD τ) bd) E (k (e.pv j)) Q)
        -∗ wp frame (wpE (defs₀ (F := F)) 𝒱 (c : Thread nD τ) bd) E (valuesP B.a7 B.a9 B.a11 B.a12 B.a13 o1 o2 o3 h1 h2 h3 >>= k) Q) := by
  have hm : j % 128 = j := Nat.mod_eq_of_lt hj
  unfold valuesP St
  simp only [bind_assoc, pure_bind]
  iintro H Hk
  icases H with ⟨%SC, %hSC, H9, H10, H13, H14, H11, H12, H3, H5, H6, H7⟩
  have hs := hSC.2 j haj hjg hj
  iapply (ldFull_rule 𝒱 c bd E) $$ H12
  iintro H12
  iapply (ldFull_rule 𝒱 c bd E) $$ H11
  iintro H11
  iapply (load_owns (s := S128x256x256) 𝒱 c bd E (e1.trans (by rw [hm] : (![j, 0, 0] : Fin 3 → ℕ) = ![j % 128, 0, 0])) (half_inb0 j)) $$ H9
  iintro H9
  iapply (load_owns (s := S128x256x256) 𝒱 c bd E (e2.trans (by rw [hm] : (![j, 0, 128] : Fin 3 → ℕ) = ![j % 128, 0, 128])) (half_inb1 j)) $$ H9
  iintro H9
  rw [hs.half0, hs.half1]
  iapply (ldFull_rule 𝒱 c bd E) $$ H13
  iintro H13
  iapply (stFull_rule 𝒱 c bd E) $$ H13
  iintro H13
  iapply (load_owns (s := S1x32768x128) 𝒱 c bd E (e3.trans (by rw [hm] : (![0, 256 * j, 0] : Fin 3 → ℕ) = ![0, 256 * (j % 128), 0])) (vals_inb j)) $$ H7
  iintro H7
  iapply Hk
  iexists SC
  isplitr
  · ipureintro; exact hSC
  isplitl [H9]; · iexact H9
  isplitl [H10]; · iexact H10
  isplitl [H13]; · iexact H13
  isplitl [H14]; · iexact H14
  isplitl [H11]; · iexact H11
  isplitl [H12]; · iexact H12
  isplitl [H3]; · iexact H3
  isplitl [H5]; · iexact H5
  isplitl [H6]; · iexact H6
  iexact H7

/-- Overwriting block `a` moves the boundary between the two passes' scores up by one. -/
theorem Mix.put {e : Env F} {a : ℕ} {SC : Vec F S128x256x256 .f32} (h : Mix e a SC) (ha : a < 128) :
    Mix e (a + 1) (VecWindow.put (s := S128x256x256) SC ![a % 128, 0, 0] S1x256x256.size (shapeCast S1x256x256 (e.T a) shapeCasts_S256x256_S1x256x256)) := by
  have hother : ∀ l x, l < 128 → l ≠ a → Slab SC l x →
      Slab (VecWindow.put (s := S128x256x256) SC ![a % 128, 0, 0] S1x256x256.size (shapeCast S1x256x256 (e.T a) shapeCasts_S256x256_S1x256x256)) l x := by
    intro l x hl hne hs
    refine (VecWindow.window_put_of_disjoint (s := S128x256x256) SC _ _ _ _ _ _ 0 ?_).trans hs
    show l % 128 + 1 ≤ a % 128 ∨ a % 128 + 1 ≤ l % 128
    rw [Nat.mod_eq_of_lt hl, Nat.mod_eq_of_lt ha]
    omega
  refine ⟨fun l hl hl' => ?_, fun l hl hg hl' => hother l _ hl' (by omega) (h.2 l (by omega) hg hl')⟩
  by_cases hla : l = a
  · subst hla
    exact VecWindow.window_put_same (s := S128x256x256) SC _ _ _ _
  · exact hother l _ hl' hla (h.1 l (by omega) hl')

/-- The score pass over block `a`. -/
theorem scoresP_rule (e : Env F) (B : Bufs) {a b : ℕ} {A : FVec F S256x128 .f32} (ha : a < 128)
    {f : FVec F S256x256 .f32 → FVec F S256x256 .f32} (hf : e.T a = f (scoreBlock e.q (keyBlk e.k a) (kscaleBlk e.ks a)))
    {o4 o5 o6 : Fin 3 → ℕ} {h4 : ∀ a, o4 a + S1x256x256.size a ≤ S1x32768x256.size a} {h5 : ∀ a, o5 a + S1x1x256.size a ≤ S1x1x32768.size a}
    {h6 : ∀ a, o6 a + S1x256x256.size a ≤ S128x256x256.size a} (e4 : o4 = ![0, 256 * a, 0]) (e5 : o5 = ![0, 0, 256 * a]) (e6 : o6 = ![a, 0, 0])
    {k : PUnit → Prog (TpuEff nD τ sig (Elt F) Λ₀ .tc) α} :
    (St e B c a b A : sProp 𝕄)
      ⊢ iprop((St e B c (a + 1) b A -∗ wp frame (wpE (defs₀ (F := F)) 𝒱 (c : Thread nD τ) bd) E (k ⟨⟩) Q)
        -∗ wp frame (wpE (defs₀ (F := F)) 𝒱 (c : Thread nD τ) bd) E (scoresP B.a3 B.a5 B.a6 B.a9 B.a10 f o4 o5 o6 h4 h5 h6 >>= k) Q) := by
  have hm : a % 128 = a := Nat.mod_eq_of_lt ha
  have e6' : o6 = ![a % 128, 0, 0] := e6.trans (by rw [hm])
  unfold scoresP St
  simp only [bind_assoc, pure_bind]
  iintro H Hk
  icases H with ⟨%SC, %hSC, H9, H10, H13, H14, H11, H12, H3, H5, H6, H7⟩
  iapply (load_owns (s := S1x32768x256) 𝒱 c bd E (e4.trans (by rw [hm] : (![0, 256 * a, 0] : Fin 3 → ℕ) = ![0, 256 * (a % 128), 0])) (keys_inb a)) $$ H6
  iintro H6
  iapply (load_owns_full (s := S1x256x256) 𝒱 c bd E) $$ H3
  iintro H3
  iapply (load_owns (s := S1x1x32768) 𝒱 c bd E (e5.trans (by rw [hm] : (![0, 0, 256 * a] : Fin 3 → ℕ) = ![0, 0, 256 * (a % 128)])) (kscale_inb a)) $$ H5
  iintro H5
  iapply (load_owns (s := S128x256x256) 𝒱 c bd E e6' (slab_inb a)) $$ H9
  iintro H9
  iapply (store_owns (s := S128x256x256) 𝒱 c bd E e6') $$ H9
  iintro H9
  iapply (ldFull_rule 𝒱 c bd E) $$ H10
  iintro H10
  iapply (stFull_rule 𝒱 c bd E) $$ H10
  iintro H10
  iapply Hk
  iexists (VecWindow.put (s := S128x256x256) SC ![a % 128, 0, 0] S1x256x256.size (shapeCast S1x256x256 (e.T a) shapeCasts_S256x256_S1x256x256))
  isplitr
  · ipureintro; exact hSC.put ha
  rw [show maxF e.T (a + 1) = maxStep (maxF e.T a) (e.T a) from rfl, hf]
  isplitl [H9]; · iexact H9
  isplitl [H10]; · iexact H10
  isplitl [H13]; · iexact H13
  isplitl [H14]; · iexact H14
  isplitl [H11]; · iexact H11
  isplitl [H12]; · iexact H12
  isplitl [H3]; · iexact H3
  isplitl [H5]; · iexact H5
  isplitl [H6]; · iexact H6
  iexact H7

end Cert.Proof.K

end
-- ==== Proof.K.Prog.lean ====
/-
  The kernel's body written with the repeated pieces of code, and that it is the printed body.
-/
module

public import proofs.«01_k».proof.Proof.K.Steps
public import proofs.«01_k».proof.Proof.Gen.KernelIdeal.Skeleton

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One trip of the interleaved loop: four key blocks, each first through the value pass of the query block before, then
    through the score pass of this one. -/
def chunkP (i : grid0.Coords) (arg3 : Memref sig .tc .vmem S1x256x256 .fp8e4m3) (arg5 : Memref sig .tc .vmem S1x1x32768 .f32) (arg6 : Memref sig .tc .vmem S1x32768x256 .fp8e4m3)
    (arg7 : Memref sig .tc .vmem S1x32768x128 .fp8e4m3) (arg9 : Memref sig .tc .vmem S128x256x256 .f32) (arg10 arg11 arg12 arg13 arg14 : Memref sig .tc .vmem S256x128 .f32)
    (h2 : k0_cond2 i = 1#1) (t : Fin (k0_t1_loop i).trips) : Prog (TpuEff nD τ sig (Elt F) Λ₀ .tc) (BitVec 32) := do
  let p0 ← valuesP arg7 arg9 arg11 arg12 arg13 (k0_off1 i t 0#32) (k0_off2 i t 0#32) (k0_off3 i t 0#32) (k0_off1_inb i t h2 0) (k0_off2_inb i t h2 0) (k0_off3_inb i t h2 0)
  scoresP arg3 arg5 arg6 arg9 arg10 id (k0_off4 i t 0#32) (k0_off5 i t 0#32) (k0_off6 i t 0#32) (k0_off4_inb i t h2 0) (k0_off5_inb i t h2 0) (k0_off6_inb i t h2 0)
  let p1 ← valuesP arg7 arg9 arg11 arg12 arg13 (k0_off1 i t 1#32) (k0_off2 i t 1#32) (k0_off3 i t 1#32) (k0_off1_inb i t h2 1) (k0_off2_inb i t h2 1) (k0_off3_inb i t h2 1)
  scoresP arg3 arg5 arg6 arg9 arg10 id (k0_off4 i t 1#32) (k0_off5 i t 1#32) (k0_off6 i t 1#32) (k0_off4_inb i t h2 1) (k0_off5_inb i t h2 1) (k0_off6_inb i t h2 1)
  let p2 ← valuesP arg7 arg9 arg11 arg12 arg13 (k0_off1 i t 2#32) (k0_off2 i t 2#32) (k0_off3 i t 2#32) (k0_off1_inb i t h2 2) (k0_off2_inb i t h2 2) (k0_off3_inb i t h2 2)
  scoresP arg3 arg5 arg6 arg9 arg10 id (k0_off4 i t 2#32) (k0_off5 i t 2#32) (k0_off6 i t 2#32) (k0_off4_inb i t h2 2) (k0_off5_inb i t h2 2) (k0_off6_inb i t h2 2)
  let p3 ← valuesP arg7 arg9 arg11 arg12 arg13 (k0_off1 i t 3#32) (k0_off2 i t 3#32) (k0_off3 i t 3#32) (k0_off1_inb i t h2 3) (k0_off2_inb i t h2 3) (k0_off3_inb i t h2 3)
  scoresP arg3 arg5 arg6 arg9 arg10 id (k0_off4 i t 3#32) (k0_off5 i t 3#32) (k0_off6 i t 3#32) (k0_off4_inb i t h2 3) (k0_off5_inb i t h2 3) (k0_off6_inb i t h2 3)
  accP arg14 (addf (addf (addf p0 p1) p2) p3)
  pure 0#32

/-- The tail with no whole block left: the diagonal block's scores. -/
def tail0P (i : grid0.Coords) (arg3 : Memref sig .tc .vmem S1x256x256 .fp8e4m3) (arg5 : Memref sig .tc .vmem S1x1x32768 .f32) (arg6 : Memref sig .tc .vmem S1x32768x256 .fp8e4m3)
    (arg7 : Memref sig .tc .vmem S1x32768x128 .fp8e4m3) (arg9 : Memref sig .tc .vmem S128x256x256 .f32) (arg10 arg11 arg12 arg13 arg14 : Memref sig .tc .vmem S256x128 .f32)
    (h2 : k0_cond2 i = 1#1) (h : k0_cond3 i = 1#1) : Prog (TpuEff nD τ sig (Elt F) Λ₀ .tc) PUnit :=
  scoresP arg3 arg5 arg6 arg9 arg10 diagMask (k0_off13 i) (k0_off14 i) (k0_off15 i) (k0_off13_inb i h2 h) (k0_off14_inb i h2 h) (k0_off15_inb i h2 h)

/-- The tail with one whole block left. -/
def tail1P (i : grid0.Coords) (arg3 : Memref sig .tc .vmem S1x256x256 .fp8e4m3) (arg5 : Memref sig .tc .vmem S1x1x32768 .f32) (arg6 : Memref sig .tc .vmem S1x32768x256 .fp8e4m3)
    (arg7 : Memref sig .tc .vmem S1x32768x128 .fp8e4m3) (arg9 : Memref sig .tc .vmem S128x256x256 .f32) (arg10 arg11 arg12 arg13 arg14 : Memref sig .tc .vmem S256x128 .f32)
    (h2 : k0_cond2 i = 1#1) (h : k0_cond4 i = 1#1) : Prog (TpuEff nD τ sig (Elt F) Λ₀ .tc) PUnit := do
  let p0 ← valuesP arg7 arg9 arg11 arg12 arg13 (k0_off16 i) (k0_off17 i) (k0_off18 i) (k0_off16_inb i h2 h) (k0_off17_inb i h2 h) (k0_off18_inb i h2 h)
  scoresP arg3 arg5 arg6 arg9 arg10 id (k0_off19 i 0#32) (k0_off20 i 0#32) (k0_off21 i 0#32) (k0_off19_inb i h2 h 0) (k0_off20_inb i h2 h 0) (k0_off21_inb i h2 h 0)
  scoresP arg3 arg5 arg6 arg9 arg10 diagMask (k0_off19 i 1#32) (k0_off20 i 1#32) (k0_off21 i 1#32) (k0_off19_inb i h2 h 1) (k0_off20_inb i h2 h 1) (k0_off21_inb i h2 h 1)
  accP arg14 p0

/-- The tail with two whole blocks left. -/
def tail2P (i : grid0.Coords) (arg3 : Memref sig .tc .vmem S1x256x256 .fp8e4m3) (arg5 : Memref sig .tc .vmem S1x1x32768 .f32) (arg6 : Memref sig .tc .vmem S1x32768x256 .fp8e4m3)
    (arg7 : Memref sig .tc .vmem S1x32768x128 .fp8e4m3) (arg9 : Memref sig .tc .vmem S128x256x256 .f32) (arg10 arg11 arg12 arg13 arg14 : Memref sig .tc .vmem S256x128 .f32)
    (h2 : k0_cond2 i = 1#1) (h : k0_cond5 i = 1#1) : Prog (TpuEff nD τ sig (Elt F) Λ₀ .tc) PUnit := do
  let p0 ← valuesP arg7 arg9 arg11 arg12 arg13 (k0_off22 i 0#32) (k0_off23 i 0#32) (k0_off24 i 0#32) (k0_off22_inb i h2 h 0) (k0_off23_inb i h2 h 0) (k0_off24_inb i h2 h 0)
  scoresP arg3 arg5 arg6 arg9 arg10 id (k0_off25 i 0#32) (k0_off26 i 0#32) (k0_off27 i 0#32) (k0_off25_inb i h2 h 0) (k0_off26_inb i h2 h 0) (k0_off27_inb i h2 h 0)
  let p1 ← valuesP arg7 arg9 arg11 arg12 arg13 (k0_off22 i 1#32) (k0_off23 i 1#32) (k0_off24 i 1#32) (k0_off22_inb i h2 h 1) (k0_off23_inb i h2 h 1) (k0_off24_inb i h2 h 1)
  scoresP arg3 arg5 arg6 arg9 arg10 id (k0_off25 i 1#32) (k0_off26 i 1#32) (k0_off27 i 1#32) (k0_off25_inb i h2 h 1) (k0_off26_inb i h2 h 1) (k0_off27_inb i h2 h 1)
  scoresP arg3 arg5 arg6 arg9 arg10 diagMask (k0_off25 i 2#32) (k0_off26 i 2#32) (k0_off27 i 2#32) (k0_off25_inb i h2 h 2) (k0_off26_inb i h2 h 2) (k0_off27_inb i h2 h 2)
  accP arg14 (addf p0 p1)

/-- The tail with three whole blocks left. -/
def tail3P (i : grid0.Coords) (arg3 : Memref sig .tc .vmem S1x256x256 .fp8e4m3) (arg5 : Memref sig .tc .vmem S1x1x32768 .f32) (arg6 : Memref sig .tc .vmem S1x32768x256 .fp8e4m3)
    (arg7 : Memref sig .tc .vmem S1x32768x128 .fp8e4m3) (arg9 : Memref sig .tc .vmem S128x256x256 .f32) (arg10 arg11 arg12 arg13 arg14 : Memref sig .tc .vmem S256x128 .f32)
    (h2 : k0_cond2 i = 1#1) (h : k0_cond6 i = 1#1) : Prog (TpuEff nD τ sig (Elt F) Λ₀ .tc) PUnit := do
  let p0 ← valuesP arg7 arg9 arg11 arg12 arg13 (k0_off28 i 0#32) (k0_off29 i 0#32) (k0_off30 i 0#32) (k0_off28_inb i h2 h 0) (k0_off29_inb i h2 h 0) (k0_off30_inb i h2 h 0)
  scoresP arg3 arg5 arg6 arg9 arg10 id (k0_off31 i 0#32) (k0_off32 i 0#32) (k0_off33 i 0#32) (k0_off31_inb i h2 h 0) (k0_off32_inb i h2 h 0) (k0_off33_inb i h2 h 0)
  let p1 ← valuesP arg7 arg9 arg11 arg12 arg13 (k0_off28 i 1#32) (k0_off29 i 1#32) (k0_off30 i 1#32) (k0_off28_inb i h2 h 1) (k0_off29_inb i h2 h 1) (k0_off30_inb i h2 h 1)
  scoresP arg3 arg5 arg6 arg9 arg10 id (k0_off31 i 1#32) (k0_off32 i 1#32) (k0_off33 i 1#32) (k0_off31_inb i h2 h 1) (k0_off32_inb i h2 h 1) (k0_off33_inb i h2 h 1)
  let p2 ← valuesP arg7 arg9 arg11 arg12 arg13 (k0_off28 i 2#32) (k0_off29 i 2#32) (k0_off30 i 2#32) (k0_off28_inb i h2 h 2) (k0_off29_inb i h2 h 2) (k0_off30_inb i h2 h 2)
  scoresP arg3 arg5 arg6 arg9 arg10 id (k0_off31 i 2#32) (k0_off32 i 2#32) (k0_off33 i 2#32) (k0_off31_inb i h2 h 2) (k0_off32_inb i h2 h 2) (k0_off33_inb i h2 h 2)
  scoresP arg3 arg5 arg6 arg9 arg10 diagMask (k0_off31 i 3#32) (k0_off32 i 3#32) (k0_off33 i 3#32) (k0_off31_inb i h2 h 3) (k0_off32_inb i h2 h 3) (k0_off33_inb i h2 h 3)
  accP arg14 (addf (addf p0 p1) p2)

/-- One trip of the last query block's value loop. -/
def drainP (i : grid0.Coords) (arg3 : Memref sig .tc .vmem S1x256x256 .fp8e4m3) (arg5 : Memref sig .tc .vmem S1x1x32768 .f32) (arg6 : Memref sig .tc .vmem S1x32768x256 .fp8e4m3)
    (arg7 : Memref sig .tc .vmem S1x32768x128 .fp8e4m3) (arg9 : Memref sig .tc .vmem S128x256x256 .f32) (arg10 arg11 arg12 arg13 arg14 : Memref sig .tc .vmem S256x128 .f32)
    (h : k0_cond7 i = 1#1) (t : Fin k0_t3_loop.trips) : Prog (TpuEff nD τ sig (Elt F) Λ₀ .tc) PUnit := do
  let p ← valuesP arg7 arg9 arg11 arg12 arg13 (k0_off34 t) (k0_off35 t) (k0_off36 t) (k0_off34_inb i t h) (k0_off35_inb i t h) (k0_off36_inb i t h)
  accP arg14 p

/-- The result block of the query block before: the accumulated values, by the value scale, over the row sums. -/
def outBlock (sm acc : FVec F S256x128 .f32) (vs : F .f32) : FVec F S1x256x128 .bf16 :=
  shapeCast S1x256x128 (truncf .bf16 (divf (mulf acc (broadcast S256x128 vs))
    (broadcastTo S256x128 (shapeCast S256x1 (multiReduction .add [1] S256 sm 0x00000000#32 reduces_S256x128_S256 (.inl rfl) rfl) shapeCasts_S256_S256x1)
      broadcasts_S256x1_S256x128)) bitsLt_bf16_f32) shapeCasts_S256x128_S1x256x128

/-- The scale of each query row in every lane: the query's scale times the softmax scale in base two. -/
def rowScale (qs : Vec F S1x1x256 .f32) : FVec F S256x128 .f32 :=
  transpose S256x128 [1, 0] (broadcastTo S128x256 (shapeCast S1x256 (mulf (shapeCast S1x256 qs shapeCasts_S1x1x256_S1x256)
    (broadcast S1x256 (Scalar.ofBits .f32 0x3DD53B95#32))) shapeCasts_S1x256_S1x256) broadcasts_S1x256_S128x256) transposes_S128x256_p1_0_S256x128

/-- The row maxima, scaled, in every lane. -/
def rowMax (mx cc : FVec F S256x128 .f32) : FVec F S256x128 .f32 :=
  mulf (broadcastTo S256x128 (shapeCast S256x1 (multiReduction .maximumf [1] S256 mx 0xFF800000#32 reduces_S256x128_S256 (.inl rfl) rfl)
    shapeCasts_S256_S256x1) broadcasts_S256x1_S256x128) cc

/-- A 256×128 buffer of zeros, -/
def zeros : FVec F S256x128 .f32 := broadcast S256x128 (Scalar.ofBits .f32 0x00000000#32)

/-- and of −∞. -/
def ninfs : FVec F S256x128 .f32 := broadcast S256x128 (Scalar.ofBits .f32 0xFF800000#32)

/-- The store of the result block. -/
def outP (i : grid0.Coords) (arg2 : Memref sig .tc .smem S16 .f32) (arg8 : Memref sig .tc .vmem S1x256x128 .bf16) (harg8 : arg8.IsWhole)
    (arg13 arg14 : Memref sig .tc .vmem S256x128 .f32) (h8 : k0_cond8 i = 1#1) : Prog (TpuEff nD τ sig (Elt F) Λ₀ .tc) PUnit := do
  let sm ← ldFull arg13
  let acc ← ldFull arg14
  let vs : Elt F .f32 ← smemLoad arg2 (Rect.unit (s := S16) (k0_off37 i) S1.size (k0_off37_inb i h8)) numel1_S1 rfl
  let _ : Vec F S1x256x128 .bf16 ← Prog.lift (.load arg8 (Rect.unit (s := S1x256x128) ![0, 0, 0] S1x256x128.size inb_S1x256x128_S1x256x128_0_0_0).toLoadRect (View.loadsAt_vmem h_S1x256x128))
  Prog.lift (.store arg8 (Rect.unit (s := S1x256x128) ![0, 0, 0] S1x256x128.size inb_S1x256x128_S1x256x128_0_0_0) (outBlock sm acc vs) Finset.univ
    (View.stores_vmem h_S1x256x128 (harg8.storeExact_slice rfl _ packedbf16_S1x256x128_S1x256x128_0_0_0) (fun _ => rfl)) (.inl rfl))

/-- The end of the body: the scales and maxima of this query block, and the sums cleared (the accumulator's store follows). -/
def finP (arg4 : Memref sig .tc .vmem S1x1x256 .f32) (arg10 arg11 arg12 arg13 arg14 : Memref sig .tc .vmem S256x128 .f32) :
    Prog (TpuEff nD τ sig (Elt F) Λ₀ .tc) (FVec F S256x128 .f32) := do
  let qs : Vec F S1x1x256 .f32 ← Prog.lift (.load arg4 (Rect.unit (s := S1x1x256) ![0, 0, 0] S1x1x256.size inb_S1x1x256_S1x1x256_0_0_0).toLoadRect (View.loadsAt_vmem h_S1x1x256))
  stFull arg12 (rowScale qs)
  let mx ← ldFull arg10
  stFull arg11 (rowMax mx (rowScale qs))
  stFull arg13 zeros
  let _ ← ldFull arg14
  pure (shapeCast S256x128 zeros shapeCasts_S256x128_S256x128)

/-- The number of whole chunks of four key blocks, as the kernel computes it (a division rounding down), -/
def chunkWord (i : grid0.Coords) : BitVec 32 :=
  let a1 : BitVec 32 := BitVec.ofNat 32 (i 1).val
  let v7 : BitVec 32 := Scalar.divsi a1 4#32
  Scalar.select (Scalar.andi (Scalar.cmpi .ne
      (Scalar.subi (Scalar.extui (Scalar.cmpi .sgt a1 0#32)) (Scalar.extui (Scalar.cmpi .slt a1 0#32)) : BitVec 32)
      (Scalar.subi (Scalar.extui (Scalar.cmpi .sgt 4#32 (0#32 : BitVec 32))) (Scalar.extui (Scalar.cmpi .slt 4#32 (0#32 : BitVec 32)))))
    (Scalar.cmpi .ne (Scalar.remsi a1 4#32) 0#32)) (Scalar.subi v7 1#32) v7

/-- and the number of blocks left over. -/
def restWord (i : grid0.Coords) : BitVec 32 :=
  let a1 : BitVec 32 := BitVec.ofNat 32 (i 1).val
  let v25 : BitVec 32 := Scalar.select (Scalar.cmpi .eq 4#32 (0#32 : BitVec 32)) 1#32 4#32
  let v26 : BitVec 32 := Scalar.remsi a1 v25
  Scalar.select (Scalar.andi (Scalar.xori (Scalar.cmpi .slt v26 0#32) (Scalar.cmpi .slt v25 0#32)) (Scalar.cmpi .ne v26 0#32)) (Scalar.addi v26 v25) v26

/-- The part of the body after the maxima are reset. -/
def restP (i : grid0.Coords) (arg2 : Memref sig .tc .smem S16 .f32) (harg2 : arg2.IsWhole) (arg3 : Memref sig .tc .vmem S1x256x256 .fp8e4m3) (harg3 : arg3.IsWhole) (arg4 : Memref sig .tc .vmem S1x1x256 .f32) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x32768x128 .fp8e4m3) (harg7 : arg7.IsWhole) (arg8 : Memref sig .tc .vmem S1x256x128 .bf16) (harg8 : arg8.IsWhole) (arg9 : Memref sig .tc .vmem S128x256x256 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (a0 a1 v23 v33 v35 c0 : BitVec 32) : Prog (TpuEff nD τ sig (Elt F) Λ₀ .tc) (FVec F S256x128 .f32) := do
  if h2 : k0_cond2 i = 1#1 then do
    let v74 : BitVec 32 ← Scf.Loop.for (k0_t1_loop i) (k0_t1_ok i h2) 0#32 (fun t _ => chunkP i arg3 arg5 arg6 arg7 arg9 arg10 arg11 arg12 arg13 arg14 h2 t)
    let _v75 : BitVec 32 ← Scf.Loop.for (k0_t2_loop i) (k0_t2_ok i h2) v74 (k0_t2_body i arg2 harg2 arg3 harg3 arg4 harg4 arg5 harg5 arg6 harg6 arg7 harg7 arg8 harg8 arg9 harg9 arg10 harg10 arg11 harg11 arg12 harg12 arg13 harg13 arg14 harg14 a0 a1 v23 v33 v35 c0 h2
      (Scalar.addi 0#32 (Scalar.muli (Scalar.divsi (Scalar.subi v23 0#32) 1#32) 1#32)))
    if h : k0_cond3 i = 1#1 then do
      tail0P i arg3 arg5 arg6 arg7 arg9 arg10 arg11 arg12 arg13 arg14 h2 h
      pure ⟨⟩
    else do
      pure ⟨⟩
    if h : k0_cond4 i = 1#1 then do
      tail1P i arg3 arg5 arg6 arg7 arg9 arg10 arg11 arg12 arg13 arg14 h2 h
      pure ⟨⟩
    else do
      pure ⟨⟩
    if h : k0_cond5 i = 1#1 then do
      tail2P i arg3 arg5 arg6 arg7 arg9 arg10 arg11 arg12 arg13 arg14 h2 h
      pure ⟨⟩
    else do
      pure ⟨⟩
    if h : k0_cond6 i = 1#1 then do
      tail3P i arg3 arg5 arg6 arg7 arg9 arg10 arg11 arg12 arg13 arg14 h2 h
      pure ⟨⟩
    else do
      pure ⟨⟩
    pure ⟨⟩
  else do
    pure ⟨⟩
  if h7 : k0_cond7 i = 1#1 then do
    Scf.Loop.for k0_t3_loop (k0_t3_ok i h7) ⟨⟩ (fun t _ => drainP i arg3 arg5 arg6 arg7 arg9 arg10 arg11 arg12 arg13 arg14 h7 t)
    pure ⟨⟩
  else do
    pure ⟨⟩
  if h8 : k0_cond8 i = 1#1 then do
    outP i arg2 arg8 harg8 arg13 arg14 h8
    pure ⟨⟩
  else do
    pure ⟨⟩
  finP arg4 arg10 arg11 arg12 arg13 arg14

/-- Whether the point is the first of its head, as the kernel computes it. -/
def isFirst (i : grid0.Coords) : BitVec 1 := Scalar.cmpi .ne (Scalar.extui (Scalar.cmpi .eq (BitVec.ofNat 32 (i 1).val) 0#32) : BitVec 32) 0#32

/-- The printed rest of the body is `restP`. -/
theorem part25_eq (i : grid0.Coords) (arg2 : Memref sig .tc .smem S16 .f32) (harg2 : arg2.IsWhole) (arg3 : Memref sig .tc .vmem S1x256x256 .fp8e4m3) (harg3 : arg3.IsWhole) (arg4 : Memref sig .tc .vmem S1x1x256 .f32) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x32768x128 .fp8e4m3) (harg7 : arg7.IsWhole) (arg8 : Memref sig .tc .vmem S1x256x128 .bf16) (harg8 : arg8.IsWhole) (arg9 : Memref sig .tc .vmem S128x256x256 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (a0 a1 v23 v33 v35 c0 : BitVec 32) :
    k0_part25 (F := F) i arg2 harg2 arg3 harg3 arg4 harg4 arg5 harg5 arg6 harg6 arg7 harg7 arg8 harg8 arg9 harg9 arg10 harg10 arg11 harg11 arg12 harg12 arg13 harg13 arg14 harg14 a0 a1 v23 v33 v35 c0 = restP i arg2 harg2 arg3 harg3 arg4 harg4 arg5 harg5 arg6 harg6 arg7 harg7 arg8 harg8 arg9 harg9 arg10 harg10 arg11 harg11 arg12 harg12 arg13 harg13 arg14 harg14 a0 a1 v23 v33 v35 c0 := by
  rfl

/-- The printed start of the body at the first point of a head, -/
theorem part24_pos (i : grid0.Coords) (arg2 : Memref sig .tc .smem S16 .f32) (harg2 : arg2.IsWhole) (arg3 : Memref sig .tc .vmem S1x256x256 .fp8e4m3) (harg3 : arg3.IsWhole) (arg4 : Memref sig .tc .vmem S1x1x256 .f32) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x32768x128 .fp8e4m3) (harg7 : arg7.IsWhole) (arg8 : Memref sig .tc .vmem S1x256x128 .bf16) (harg8 : arg8.IsWhole) (arg9 : Memref sig .tc .vmem S128x256x256 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (h : isFirst i = 1#1) :
    k0_part24 (F := F) i arg2 harg2 arg3 harg3 arg4 harg4 arg5 harg5 arg6 harg6 arg7 harg7 arg8 harg8 arg9 harg9 arg10 harg10 arg11 harg11 arg12 harg12 arg13 harg13 arg14 harg14 = (do
      stFull arg13 zeros
      stFull arg14 zeros
      stFull arg10 ninfs
      pure ⟨BitVec.ofNat 32 (i 0).val, BitVec.ofNat 32 (i 1).val, chunkWord i, restWord i, Scalar.extui (Scalar.cmpi .slt (BitVec.ofNat 32 (i 1).val : BitVec 32) 128#32), 0#32⟩) :=
  (dif_pos h).trans rfl

/-- and at the others. -/
theorem part24_neg (i : grid0.Coords) (arg2 : Memref sig .tc .smem S16 .f32) (harg2 : arg2.IsWhole) (arg3 : Memref sig .tc .vmem S1x256x256 .fp8e4m3) (harg3 : arg3.IsWhole) (arg4 : Memref sig .tc .vmem S1x1x256 .f32) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x32768x128 .fp8e4m3) (harg7 : arg7.IsWhole) (arg8 : Memref sig .tc .vmem S1x256x128 .bf16) (harg8 : arg8.IsWhole) (arg9 : Memref sig .tc .vmem S128x256x256 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (h : ¬ isFirst i = 1#1) :
    k0_part24 (F := F) i arg2 harg2 arg3 harg3 arg4 harg4 arg5 harg5 arg6 harg6 arg7 harg7 arg8 harg8 arg9 harg9 arg10 harg10 arg11 harg11 arg12 harg12 arg13 harg13 arg14 harg14 = (do
      stFull arg10 ninfs
      pure ⟨BitVec.ofNat 32 (i 0).val, BitVec.ofNat 32 (i 1).val, chunkWord i, restWord i, Scalar.extui (Scalar.cmpi .slt (BitVec.ofNat 32 (i 1).val : BitVec 32) 128#32), 0#32⟩) :=
  (dif_neg h).trans rfl

end Cert.Proof.K

end
-- ==== Proof.K.Offsets.lean ====
/-
  What the kernel computes of its grid point: the conditions, trip counts and offsets, in closed form.
-/
module

public import proofs.«01_k».proof.Proof.K.Prog

@[expose] public section

noncomputable section

namespace Cert.Proof.K

open Cert.KernelIdeal Cert.KernelIdeal.Gen

open Idealize.ShloMosaic Idealize.ShloMosaic.TcCoe

/-- A grid point at place `g` of its head: the conditions and trip counts depend on `g` alone. -/
def atPlace (g : Fin 129) : grid0.Coords := fun a => match a with
  | 0 => (0 : Fin 16)
  | 1 => g

theorem isFirst_iff (i : grid0.Coords) : isFirst i = 1#1 ↔ (i 1).val = 0 :=
  (by decide +kernel : ∀ g : Fin 129, isFirst (atPlace g) = 1#1 ↔ g.val = 0) (i 1)
theorem cond2_iff (i : grid0.Coords) : k0_cond2 i = 1#1 ↔ (i 1).val < 128 :=
  (by decide +kernel : ∀ g : Fin 129, k0_cond2 (atPlace g) = 1#1 ↔ g.val < 128) (i 1)
theorem cond3_iff (i : grid0.Coords) : k0_cond3 i = 1#1 ↔ (i 1).val % 4 = 0 :=
  (by decide +kernel : ∀ g : Fin 129, k0_cond3 (atPlace g) = 1#1 ↔ g.val % 4 = 0) (i 1)
theorem cond4_iff (i : grid0.Coords) : k0_cond4 i = 1#1 ↔ (i 1).val % 4 = 1 :=
  (by decide +kernel : ∀ g : Fin 129, k0_cond4 (atPlace g) = 1#1 ↔ g.val % 4 = 1) (i 1)
theorem cond5_iff (i : grid0.Coords) : k0_cond5 i = 1#1 ↔ (i 1).val % 4 = 2 :=
  (by decide +kernel : ∀ g : Fin 129, k0_cond5 (atPlace g) = 1#1 ↔ g.val % 4 = 2) (i 1)
theorem cond6_iff (i : grid0.Coords) : k0_cond6 i = 1#1 ↔ (i 1).val % 4 = 3 :=
  (by decide +kernel : ∀ g : Fin 129, k0_cond6 (atPlace g) = 1#1 ↔ g.val % 4 = 3) (i 1)
theorem cond7_iff (i : grid0.Coords) : k0_cond7 i = 1#1 ↔ (i 1).val = 128 :=
  (by decide +kernel : ∀ g : Fin 129, k0_cond7 (atPlace g) = 1#1 ↔ g.val = 128) (i 1)
theorem cond8_iff (i : grid0.Coords) : k0_cond8 i = 1#1 ↔ (i 1).val ≠ 0 :=
  (by decide +kernel : ∀ g : Fin 129, k0_cond8 (atPlace g) = 1#1 ↔ g.val ≠ 0) (i 1)
theorem t1_trips (i : grid0.Coords) : (k0_t1_loop i).trips = (i 1).val / 4 :=
  (by decide +kernel : ∀ g : Fin 129, (k0_t1_loop (atPlace g)).trips = g.val / 4) (i 1)
theorem t2_trips (i : grid0.Coords) : (k0_t2_loop i).trips = 0 :=
  (by decide +kernel : ∀ g : Fin 129, (k0_t2_loop (atPlace g)).trips = 0) (i 1)
theorem t3_trips : k0_t3_loop.trips = 128 := by decide +kernel

/-- The number of whole chunks of four is the quotient by four. -/
theorem chunkWord_eq (i : grid0.Coords) : chunkWord i = BitVec.ofNat 32 ((i 1).val / 4) :=
  (by decide +kernel : ∀ g : Fin 129, chunkWord (atPlace g) = BitVec.ofNat 32 (g.val / 4)) (i 1)

/-- The block numbered `r` of the chunk `w`, -/
def slabW (w r : BitVec 32) : Nat := (Scalar.indexCast (Scalar.addi (Scalar.muli w 4#32) r) : BitVec 32).toNat
/-- and its first row. -/
def rowW (w r : BitVec 32) : Nat := (Scalar.indexCast (Scalar.muli (Scalar.addi (Scalar.muli w 4#32) r) 256#32) : BitVec 32).toNat

theorem slabW_ofNat : ∀ (t : Fin 33) (r : Fin 4), slabW (BitVec.ofNat 32 t.val) (BitVec.ofNat 32 r.val) = 4 * t.val + r.val := by decide +kernel
theorem rowW_ofNat : ∀ (t : Fin 33) (r : Fin 4), rowW (BitVec.ofNat 32 t.val) (BitVec.ofNat 32 r.val) = 256 * (4 * t.val + r.val) := by decide +kernel
theorem slabW_iv : ∀ (t : Fin 33) (r : Fin 4), slabW (Scf.iv 0#32 1#32 t.val) (BitVec.ofNat 32 r.val) = 4 * t.val + r.val := by decide +kernel
theorem rowW_iv : ∀ (t : Fin 33) (r : Fin 4), rowW (Scf.iv 0#32 1#32 t.val) (BitVec.ofNat 32 r.val) = 256 * (4 * t.val + r.val) := by decide +kernel

theorem slabW_chunk (i : grid0.Coords) (r : Fin 4) : slabW (chunkWord i) (BitVec.ofNat 32 r.val) = 4 * ((i 1).val / 4) + r.val := by
  have : (i 1).val < 129 := (i 1).isLt
  rw [chunkWord_eq]; exact slabW_ofNat ⟨(i 1).val / 4, by omega⟩ r
theorem rowW_chunk (i : grid0.Coords) (r : Fin 4) : rowW (chunkWord i) (BitVec.ofNat 32 r.val) = 256 * (4 * ((i 1).val / 4) + r.val) := by
  have : (i 1).val < 129 := (i 1).isLt
  rw [chunkWord_eq]; exact rowW_ofNat ⟨(i 1).val / 4, by omega⟩ r

theorem chunk_lt (i : grid0.Coords) (t : Fin (k0_t1_loop i).trips) : t.val < 33 := by
  have h : t.val < (i 1).val / 4 := t1_trips i ▸ t.isLt
  have : (i 1).val < 129 := (i 1).isLt
  omega

/-! ## The loop's offsets -/

theorem off1_eq (i : grid0.Coords) (t : Fin (k0_t1_loop i).trips) (r : Fin 4) : k0_off1 i t (BitVec.ofNat 32 r.val) = ![4 * t.val + r.val, 0, 0] :=
  congrArg (fun n => ![n, 0, 0]) (slabW_iv ⟨t.val, chunk_lt i t⟩ r)
theorem off2_eq (i : grid0.Coords) (t : Fin (k0_t1_loop i).trips) (r : Fin 4) : k0_off2 i t (BitVec.ofNat 32 r.val) = ![4 * t.val + r.val, 0, 128] :=
  congrArg (fun n => ![n, 0, 128]) (slabW_iv ⟨t.val, chunk_lt i t⟩ r)
theorem off3_eq (i : grid0.Coords) (t : Fin (k0_t1_loop i).trips) (r : Fin 4) : k0_off3 i t (BitVec.ofNat 32 r.val) = ![0, 256 * (4 * t.val + r.val), 0] :=
  congrArg (fun n => ![0, n, 0]) (rowW_iv ⟨t.val, chunk_lt i t⟩ r)
theorem off4_eq (i : grid0.Coords) (t : Fin (k0_t1_loop i).trips) (r : Fin 4) : k0_off4 i t (BitVec.ofNat 32 r.val) = ![0, 256 * (4 * t.val + r.val), 0] :=
  congrArg (fun n => ![0, n, 0]) (rowW_iv ⟨t.val, chunk_lt i t⟩ r)
theorem off5_eq (i : grid0.Coords) (t : Fin (k0_t1_loop i).trips) (r : Fin 4) : k0_off5 i t (BitVec.ofNat 32 r.val) = ![0, 0, 256 * (4 * t.val + r.val)] :=
  congrArg (fun n => ![0, 0, n]) (rowW_iv ⟨t.val, chunk_lt i t⟩ r)
theorem off6_eq (i : grid0.Coords) (t : Fin (k0_t1_loop i).trips) (r : Fin 4) : k0_off6 i t (BitVec.ofNat 32 r.val) = ![4 * t.val + r.val, 0, 0] :=
  congrArg (fun n => ![n, 0, 0]) (slabW_iv ⟨t.val, chunk_lt i t⟩ r)

/-! ## The tails' offsets -/

theorem off13_eq (i : grid0.Coords) : k0_off13 i = ![0, 256 * (4 * ((i 1).val / 4)), 0] :=
  congrArg (fun n => ![0, n, 0]) (rowW_chunk i 0)
theorem off14_eq (i : grid0.Coords) : k0_off14 i = ![0, 0, 256 * (4 * ((i 1).val / 4))] :=
  congrArg (fun n => ![0, 0, n]) (rowW_chunk i 0)
theorem off15_eq (i : grid0.Coords) : k0_off15 i = ![4 * ((i 1).val / 4), 0, 0] :=
  congrArg (fun n => ![n, 0, 0]) (slabW_chunk i 0)
theorem off16_eq (i : grid0.Coords) : k0_off16 i = ![4 * ((i 1).val / 4), 0, 0] :=
  congrArg (fun n => ![n, 0, 0]) (slabW_chunk i 0)
theorem off17_eq (i : grid0.Coords) : k0_off17 i = ![4 * ((i 1).val / 4), 0, 128] :=
  congrArg (fun n => ![n, 0, 128]) (slabW_chunk i 0)
theorem off18_eq (i : grid0.Coords) : k0_off18 i = ![0, 256 * (4 * ((i 1).val / 4)), 0] :=
  congrArg (fun n => ![0, n, 0]) (rowW_chunk i 0)
theorem off19_eq (i : grid0.Coords) (r : Fin 4) : k0_off19 i (BitVec.ofNat 32 r.val) = ![0, 256 * (4 * ((i 1).val / 4) + r.val), 0] :=
  congrArg (fun n => ![0, n, 0]) (rowW_chunk i r)
theorem off20_eq (i : grid0.Coords) (r : Fin 4) : k0_off20 i (BitVec.ofNat 32 r.val) = ![0, 0, 256 * (4 * ((i 1).val / 4) + r.val)] :=
  congrArg (fun n => ![0, 0, n]) (rowW_chunk i r)
theorem off21_eq (i : grid0.Coords) (r : Fin 4) : k0_off21 i (BitVec.ofNat 32 r.val) = ![4 * ((i 1).val / 4) + r.val, 0, 0] :=
  congrArg (fun n => ![n, 0, 0]) (slabW_chunk i r)
theorem off22_eq (i : grid0.Coords) (r : Fin 4) : k0_off22 i (BitVec.ofNat 32 r.val) = ![4 * ((i 1).val / 4) + r.val, 0, 0] :=
  congrArg (fun n => ![n, 0, 0]) (slabW_chunk i r)
theorem off23_eq (i : grid0.Coords) (r : Fin 4) : k0_off23 i (BitVec.ofNat 32 r.val) = ![4 * ((i 1).val / 4) + r.val, 0, 128] :=
  congrArg (fun n => ![n, 0, 128]) (slabW_chunk i r)
theorem off24_eq (i : grid0.Coords) (r : Fin 4) : k0_off24 i (BitVec.ofNat 32 r.val) = ![0, 256 * (4 * ((i 1).val / 4) + r.val), 0] :=
  congrArg (fun n => ![0, n, 0]) (rowW_chunk i r)
theorem off25_eq (i : grid0.Coords) (r : Fin 4) : k0_off25 i (BitVec.ofNat 32 r.val) = ![0, 256 * (4 * ((i 1).val / 4) + r.val), 0] :=
  congrArg (fun n => ![0, n, 0]) (rowW_chunk i r)
theorem off26_eq (i : grid0.Coords) (r : Fin 4) : k0_off26 i (BitVec.ofNat 32 r.val) = ![0, 0, 256 * (4 * ((i 1).val / 4) + r.val)] :=
  congrArg (fun n => ![0, 0, n]) (rowW_chunk i r)
theorem off27_eq (i : grid0.Coords) (r : Fin 4) : k0_off27 i (BitVec.ofNat 32 r.val) = ![4 * ((i 1).val / 4) + r.val, 0, 0] :=
  congrArg (fun n => ![n, 0, 0]) (slabW_chunk i r)
theorem off28_eq (i : grid0.Coords) (r : Fin 4) : k0_off28 i (BitVec.ofNat 32 r.val) = ![4 * ((i 1).val / 4) + r.val, 0, 0] :=
  congrArg (fun n => ![n, 0, 0]) (slabW_chunk i r)
theorem off29_eq (i : grid0.Coords) (r : Fin 4) : k0_off29 i (BitVec.ofNat 32 r.val) = ![4 * ((i 1).val / 4) + r.val, 0, 128] :=
  congrArg (fun n => ![n, 0, 128]) (slabW_chunk i r)
theorem off30_eq (i : grid0.Coords) (r : Fin 4) : k0_off30 i (BitVec.ofNat 32 r.val) = ![0, 256 * (4 * ((i 1).val / 4) + r.val), 0] :=
  congrArg (fun n => ![0, n, 0]) (rowW_chunk i r)
theorem off31_eq (i : grid0.Coords) (r : Fin 4) : k0_off31 i (BitVec.ofNat 32 r.val) = ![0, 256 * (4 * ((i 1).val / 4) + r.val), 0] :=
  congrArg (fun n => ![0, n, 0]) (rowW_chunk i r)
theorem off32_eq (i : grid0.Coords) (r : Fin 4) : k0_off32 i (BitVec.ofNat 32 r.val) = ![0, 0, 256 * (4 * ((i 1).val / 4) + r.val)] :=
  congrArg (fun n => ![0, 0, n]) (rowW_chunk i r)
theorem off33_eq (i : grid0.Coords) (r : Fin 4) : k0_off33 i (BitVec.ofNat 32 r.val) = ![4 * ((i 1).val / 4) + r.val, 0, 0] :=
  congrArg (fun n => ![n, 0, 0]) (slabW_chunk i r)

/-! ## The last pass's offsets, and the head's place in the vector of scales -/

theorem off34_eq : ∀ t : Fin k0_t3_loop.trips, k0_off34 t = ![t.val, 0, 0] := by decide +kernel
theorem off35_eq : ∀ t : Fin k0_t3_loop.trips, k0_off35 t = ![t.val, 0, 128] := by decide +kernel
theorem off36_eq : ∀ t : Fin k0_t3_loop.trips, k0_off36 t = ![0, 256 * t.val, 0] := by decide +kernel
theorem off37_eq (i : grid0.Coords) : k0_off37 i = ![(i 0).val] :=
  congrArg (fun n => ![n]) ((by decide +kernel : ∀ h : Fin 16, (Scalar.indexCast (BitVec.ofNat 32 h.val) : BitVec 32).toNat = h.val) (i 0))

end Cert.Proof.K

end
-- ==== Proof.K.Pass.lean ====
/-
  The loops and tails of a pass.
-/
module

public import proofs.«01_k».proof.Proof.K.StepRules
public import proofs.«01_k».proof.Proof.K.Offsets

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱 : Variants) (c : Dev nD) (bd : Option 𝒱.V) (E : Set ℕ)

theorem Env.T_of_ne {e : Env F} {j : ℕ} (h : j ≠ e.g) : e.T j = id (scoreBlock e.q (keyBlk e.k j) (kscaleBlk e.ks j)) := if_neg h
theorem Env.T_of_eq {e : Env F} {j : ℕ} (h : j = e.g) : e.T j = diagMask (scoreBlock e.q (keyBlk e.k j) (kscaleBlk e.ks j)) := if_pos h

variable {α : Type} {Q : α → sProp (MT nD τ sig Unit (Elt F) ℕ (UR sig nD τ) ℕ)}

/-- A program that only returns. -/
theorem pure_rule {x : α} : Q x ⊢ wp frame (wpE (defs₀ (F := F)) 𝒱 (c : Thread nD τ) bd) E (pure x) Q := by
  show _ ⊢ wp frame (wpE (defs₀ (F := F)) 𝒱 (c : Thread nD τ) bd) E (Prog.ret x) Q
  rw [wp_ret]
  iintro H
  imodintro
  iexact H

/-- One trip of the interleaved loop. -/
theorem chunk_rule (e : Env F) (B : Bufs) (i : grid0.Coords) (hg : e.g = (i 1).val) (h2 : k0_cond2 i = 1#1) (t : Fin (k0_t1_loop i).trips) :
    (St e B c (4 * t.val) (4 * t.val) (e.accC t.val) : sProp 𝕄)
      ⊢ wp frame (wpE (defs₀ (F := F)) 𝒱 (c : Thread nD τ) bd) E (chunkP i B.a3 B.a5 B.a6 B.a7 B.a9 B.a10 B.a11 B.a12 B.a13 B.a14 h2 t)
        (fun _ => St e B c (4 * (t.val + 1)) (4 * (t.val + 1)) (e.accC (t.val + 1))) := by
  have hlt : t.val < (i 1).val / 4 := t1_trips i ▸ t.isLt
  have hg' : (i 1).val < 128 := (cond2_iff i).1 h2
  unfold chunkP
  iintro H
  iapply (valuesP_rule 𝒱 c bd E e B (Nat.le_refl _) (by omega) (by omega) (off1_eq i t 0) (off2_eq i t 0) (off3_eq i t 0)) $$ H
  iintro H
  iapply (scoresP_rule 𝒱 c bd E e B (by omega) (Env.T_of_ne (by omega)) (off4_eq i t 0) (off5_eq i t 0) (off6_eq i t 0)) $$ H
  iintro H
  iapply (valuesP_rule 𝒱 c bd E e B (Nat.le_refl _) (by omega) (by omega) (off1_eq i t 1) (off2_eq i t 1) (off3_eq i t 1)) $$ H
  iintro H
  iapply (scoresP_rule 𝒱 c bd E e B (by omega) (Env.T_of_ne (by omega)) (off4_eq i t 1) (off5_eq i t 1) (off6_eq i t 1)) $$ H
  iintro H
  iapply (valuesP_rule 𝒱 c bd E e B (Nat.le_refl _) (by omega) (by omega) (off1_eq i t 2) (off2_eq i t 2) (off3_eq i t 2)) $$ H
  iintro H
  iapply (scoresP_rule 𝒱 c bd E e B (by omega) (Env.T_of_ne (by omega)) (off4_eq i t 2) (off5_eq i t 2) (off6_eq i t 2)) $$ H
  iintro H
  iapply (valuesP_rule 𝒱 c bd E e B (Nat.le_refl _) (by omega) (by omega) (off1_eq i t 3) (off2_eq i t 3) (off3_eq i t 3)) $$ H
  iintro H
  iapply (scoresP_rule 𝒱 c bd E e B (by omega) (Env.T_of_ne (by omega)) (off4_eq i t 3) (off5_eq i t 3) (off6_eq i t 3)) $$ H
  iintro H
  iapply (accP_rule 𝒱 c bd E e B) $$ H
  iintro H
  iapply (pure_rule 𝒱 c bd E (Q := fun _ => St e B c (4 * (t.val + 1)) (4 * (t.val + 1)) (e.accC (t.val + 1))))
  iexact H

/-- The tail with no whole block left. -/
theorem tail0_rule (e : Env F) (B : Bufs) (i : grid0.Coords) (hg : e.g = (i 1).val) (h2 : k0_cond2 i = 1#1) (h : k0_cond3 i = 1#1) {A : FVec F S256x128 .f32}
    {k : PUnit → Prog (TpuEff nD τ sig (Elt F) Λ₀ .tc) α} :
    (St e B c (4 * ((i 1).val / 4)) (4 * ((i 1).val / 4)) A : sProp 𝕄)
      ⊢ iprop((St e B c (4 * ((i 1).val / 4) + 0 + 1) (4 * ((i 1).val / 4) + 0) (e.accT (4 * ((i 1).val / 4)) A 0)
          -∗ wp frame (wpE (defs₀ (F := F)) 𝒱 (c : Thread nD τ) bd) E (k ⟨⟩) Q)
        -∗ wp frame (wpE (defs₀ (F := F)) 𝒱 (c : Thread nD τ) bd) E (tail0P i B.a3 B.a5 B.a6 B.a7 B.a9 B.a10 B.a11 B.a12 B.a13 B.a14 h2 h >>= k) Q) := by
  have hg' : (i 1).val < 128 := (cond2_iff i).1 h2
  have hr : (i 1).val % 4 = 0 := (cond3_iff i).1 h
  unfold tail0P
  iintro H Hk
  iapply (scoresP_rule 𝒱 c bd E e B (by omega) (Env.T_of_eq (by omega)) (off13_eq i) (off14_eq i) (off15_eq i)) $$ H
  iintro H
  iapply Hk
  iexact H

/-- The tail with one whole block left. -/
theorem tail1_rule (e : Env F) (B : Bufs) (i : grid0.Coords) (hg : e.g = (i 1).val) (h2 : k0_cond2 i = 1#1) (h : k0_cond4 i = 1#1) {A : FVec F S256x128 .f32}
    {k : PUnit → Prog (TpuEff nD τ sig (Elt F) Λ₀ .tc) α} :
    (St e B c (4 * ((i 1).val / 4)) (4 * ((i 1).val / 4)) A : sProp 𝕄)
      ⊢ iprop((St e B c (4 * ((i 1).val / 4) + 1 + 1) (4 * ((i 1).val / 4) + 1) (e.accT (4 * ((i 1).val / 4)) A 1)
          -∗ wp frame (wpE (defs₀ (F := F)) 𝒱 (c : Thread nD τ) bd) E (k ⟨⟩) Q)
        -∗ wp frame (wpE (defs₀ (F := F)) 𝒱 (c : Thread nD τ) bd) E (tail1P i B.a3 B.a5 B.a6 B.a7 B.a9 B.a10 B.a11 B.a12 B.a13 B.a14 h2 h >>= k) Q) := by
  have hg' : (i 1).val < 128 := (cond2_iff i).1 h2
  have hr : (i 1).val % 4 = 1 := (cond4_iff i).1 h
  unfold tail1P
  simp only [bind_assoc]
  iintro H Hk
  iapply (valuesP_rule 𝒱 c bd E e B (Nat.le_refl _) (by omega) (by omega) (off16_eq i) (off17_eq i) (off18_eq i)) $$ H
  iintro H
  iapply (scoresP_rule 𝒱 c bd E e B (by omega) (Env.T_of_ne (by omega)) (off19_eq i 0) (off20_eq i 0) (off21_eq i 0)) $$ H
  iintro H
  iapply (scoresP_rule 𝒱 c bd E e B (by omega) (Env.T_of_eq (by omega)) (off19_eq i 1) (off20_eq i 1) (off21_eq i 1)) $$ H
  iintro H
  iapply (accP_rule 𝒱 c bd E e B) $$ H
  iintro H
  iapply Hk
  iexact H

/-- The tail with two whole blocks left. -/
theorem tail2_rule (e : Env F) (B : Bufs) (i : grid0.Coords) (hg : e.g = (i 1).val) (h2 : k0_cond2 i = 1#1) (h : k0_cond5 i = 1#1) {A : FVec F S256x128 .f32}
    {k : PUnit → Prog (TpuEff nD τ sig (Elt F) Λ₀ .tc) α} :
    (St e B c (4 * ((i 1).val / 4)) (4 * ((i 1).val / 4)) A : sProp 𝕄)
      ⊢ iprop((St e B c (4 * ((i 1).val / 4) + 2 + 1) (4 * ((i 1).val / 4) + 2) (e.accT (4 * ((i 1).val / 4)) A 2)
          -∗ wp frame (wpE (defs₀ (F := F)) 𝒱 (c : Thread nD τ) bd) E (k ⟨⟩) Q)
        -∗ wp frame (wpE (defs₀ (F := F)) 𝒱 (c : Thread nD τ) bd) E (tail2P i B.a3 B.a5 B.a6 B.a7 B.a9 B.a10 B.a11 B.a12 B.a13 B.a14 h2 h >>= k) Q) := by
  have hg' : (i 1).val < 128 := (cond2_iff i).1 h2
  have hr : (i 1).val % 4 = 2 := (cond5_iff i).1 h
  unfold tail2P
  simp only [bind_assoc]
  iintro H Hk
  iapply (valuesP_rule 𝒱 c bd E e B (Nat.le_refl _) (by omega) (by omega) (off22_eq i 0) (off23_eq i 0) (off24_eq i 0)) $$ H
  iintro H
  iapply (scoresP_rule 𝒱 c bd E e B (by omega) (Env.T_of_ne (by omega)) (off25_eq i 0) (off26_eq i 0) (off27_eq i 0)) $$ H
  iintro H
  iapply (valuesP_rule 𝒱 c bd E e B (Nat.le_refl _) (by omega) (by omega) (off22_eq i 1) (off23_eq i 1) (off24_eq i 1)) $$ H
  iintro H
  iapply (scoresP_rule 𝒱 c bd E e B (by omega) (Env.T_of_ne (by omega)) (off25_eq i 1) (off26_eq i 1) (off27_eq i 1)) $$ H
  iintro H
  iapply (scoresP_rule 𝒱 c bd E e B (by omega) (Env.T_of_eq (by omega)) (off25_eq i 2) (off26_eq i 2) (off27_eq i 2)) $$ H
  iintro H
  iapply (accP_rule 𝒱 c bd E e B) $$ H
  iintro H
  iapply Hk
  iexact H

/-- The tail with three whole blocks left. -/
theorem tail3_rule (e : Env F) (B : Bufs) (i : grid0.Coords) (hg : e.g = (i 1).val) (h2 : k0_cond2 i = 1#1) (h : k0_cond6 i = 1#1) {A : FVec F S256x128 .f32}
    {k : PUnit → Prog (TpuEff nD τ sig (Elt F) Λ₀ .tc) α} :
    (St e B c (4 * ((i 1).val / 4)) (4 * ((i 1).val / 4)) A : sProp 𝕄)
      ⊢ iprop((St e B c (4 * ((i 1).val / 4) + 3 + 1) (4 * ((i 1).val / 4) + 3) (e.accT (4 * ((i 1).val / 4)) A 3)
          -∗ wp frame (wpE (defs₀ (F := F)) 𝒱 (c : Thread nD τ) bd) E (k ⟨⟩) Q)
        -∗ wp frame (wpE (defs₀ (F := F)) 𝒱 (c : Thread nD τ) bd) E (tail3P i B.a3 B.a5 B.a6 B.a7 B.a9 B.a10 B.a11 B.a12 B.a13 B.a14 h2 h >>= k) Q) := by
  have hg' : (i 1).val < 128 := (cond2_iff i).1 h2
  have hr : (i 1).val % 4 = 3 := (cond6_iff i).1 h
  unfold tail3P
  simp only [bind_assoc]
  iintro H Hk
  iapply (valuesP_rule 𝒱 c bd E e B (Nat.le_refl _) (by omega) (by omega) (off28_eq i 0) (off29_eq i 0) (off30_eq i 0)) $$ H
  iintro H
  iapply (scoresP_rule 𝒱 c bd E e B (by omega) (Env.T_of_ne (by omega)) (off31_eq i 0) (off32_eq i 0) (off33_eq i 0)) $$ H
  iintro H
  iapply (valuesP_rule 𝒱 c bd E e B (Nat.le_refl _) (by omega) (by omega) (off28_eq i 1) (off29_eq i 1) (off30_eq i 1)) $$ H
  iintro H
  iapply (scoresP_rule 𝒱 c bd E e B (by omega) (Env.T_of_ne (by omega)) (off31_eq i 1) (off32_eq i 1) (off33_eq i 1)) $$ H
  iintro H
  iapply (valuesP_rule 𝒱 c bd E e B (Nat.le_refl _) (by omega) (by omega) (off28_eq i 2) (off29_eq i 2) (off30_eq i 2)) $$ H
  iintro H
  iapply (scoresP_rule 𝒱 c bd E e B (by omega) (Env.T_of_ne (by omega)) (off31_eq i 2) (off32_eq i 2) (off33_eq i 2)) $$ H
  iintro H
  iapply (scoresP_rule 𝒱 c bd E e B (by omega) (Env.T_of_eq (by omega)) (off31_eq i 3) (off32_eq i 3) (off33_eq i 3)) $$ H
  iintro H
  iapply (accP_rule 𝒱 c bd E e B) $$ H
  iintro H
  iapply Hk
  iexact H

/-- One trip of the last pass's loop. -/
theorem drain_rule (e : Env F) (B : Bufs) (i : grid0.Coords) (hg : e.g = (i 1).val) (h7 : k0_cond7 i = 1#1) (t : Fin k0_t3_loop.trips) :
    (St e B c 0 t.val (e.accL t.val) : sProp 𝕄)
      ⊢ wp frame (wpE (defs₀ (F := F)) 𝒱 (c : Thread nD τ) bd) E (drainP i B.a3 B.a5 B.a6 B.a7 B.a9 B.a10 B.a11 B.a12 B.a13 B.a14 h7 t)
        (fun _ => St e B c 0 (t.val + 1) (e.accL (t.val + 1))) := by
  have hlt : t.val < 128 := t3_trips ▸ t.isLt
  have hg' : (i 1).val = 128 := (cond7_iff i).1 h7
  unfold drainP
  iintro H
  iapply (valuesP_rule 𝒱 c bd E e B (Nat.zero_le _) (by omega) (by omega) (off34_eq t) (off35_eq t) (off36_eq t)) $$ H
  iintro H
  rw [← bind_pure (accP B.a14 (e.pv t.val))]
  iapply (accP_rule 𝒱 c bd E e B) $$ H
  iintro H
  iapply (pure_rule 𝒱 c bd E (Q := fun _ => St e B c 0 (t.val + 1) (e.accL (t.val + 1))))
  iexact H

end Cert.Proof.K

end
-- ==== Proof.K.Body.lean ====
/-
  The rest of the body: the loops as wholes, the result block's store, and the end.
-/
module

public import proofs.«01_k».proof.Proof.K.Pass

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The value scale of the point's head. -/
def headScale (X : Vec F S16 .f32) (i : grid0.Coords) : F .f32 := X (fun a => match a with | 0 => i 0)

variable (𝒱 : Variants) (c : Dev nD) (bd : Option 𝒱.V) (E : Set ℕ)
variable {α : Type} {Q : α → sProp (MT nD τ sig Unit (Elt F) ℕ (UR sig nD τ) ℕ)}

/-- The load of the head's value scale. -/
theorem vscale_rule {a2 : Memref sig .tc .smem S16 .f32} {X : Vec F S16 .f32} (i : grid0.Coords) (h8 : k0_cond8 i = 1#1)
    {k : Elt F .f32 → Prog (TpuEff nD τ sig (Elt F) Λ₀ .tc) α} :
    (owns (c : Thread nD τ) a2 fullShare X : sProp 𝕄)
      ⊢ iprop((owns (c : Thread nD τ) a2 fullShare X -∗ wp frame (wpE (defs₀ (F := F)) 𝒱 (c : Thread nD τ) bd) E (k (headScale X i)) Q)
        -∗ wp frame (wpE (defs₀ (F := F)) 𝒱 (c : Thread nD τ) bd) E (smemLoad a2 (Rect.unit (s := S16) (k0_off37 i) S1.size (k0_off37_inb i h8)) numel1_S1 rfl >>= k) Q) := by
  have hval : VecWindow.window (s := S16) X (k0_off37 i) S1.size (k0_off37_inb i h8) (Shape.Idx.first (numel1_S1.symm ▸ Nat.one_pos)) = headScale X i := by
    refine congrArg X (funext fun a => Fin.ext ?_)
    match a with
    | 0 =>
      have h0 : k0_off37 i 0 = (i 0).val := congrFun (off37_eq i) 0
      have h1 := ((Shape.Idx.first (s := S1) (numel1_S1.symm ▸ Nat.one_pos)) 0).isLt
      have h2 : S1.size 0 = 1 := rfl
      show k0_off37 i 0 + 1 * _ = (i 0).val
      omega
  rw [← hval]
  exact load_owns (s := S16) 𝒱 c bd E rfl (k0_off37_inb i h8) (k := fun f => k (f (Shape.Idx.first (numel1_S1.symm ▸ Nat.one_pos))))

/-- The store of the result block. -/
theorem outP_rule (i : grid0.Coords) {a2 : Memref sig .tc .smem S16 .f32} {a8 : Memref sig .tc .vmem S1x256x128 .bf16} {ha8 : a8.IsWhole}
    {a13 a14 : Memref sig .tc .vmem S256x128 .f32} {h8 : k0_cond8 i = 1#1} {X : Vec F S16 .f32} {sm acc : Vec F S256x128 .f32} {d : Vec F S1x256x128 .bf16}
    {k : PUnit → Prog (TpuEff nD τ sig (Elt F) Λ₀ .tc) α} :
    iprop(owns (c : Thread nD τ) a2 fullShare X ∗ owns (c : Thread nD τ) a8 fullShare d ∗ owns (c : Thread nD τ) a13 fullShare sm ∗ owns (c : Thread nD τ) a14 fullShare acc)
      ⊢ iprop((owns (c : Thread nD τ) a2 fullShare X ∗ owns (c : Thread nD τ) a8 fullShare (outBlock sm acc (headScale X i)) ∗ owns (c : Thread nD τ) a13 fullShare sm
            ∗ owns (c : Thread nD τ) a14 fullShare acc -∗ wp frame (wpE (defs₀ (F := F)) 𝒱 (c : Thread nD τ) bd) E (k ⟨⟩) Q)
        -∗ wp frame (wpE (defs₀ (F := F)) 𝒱 (c : Thread nD τ) bd) E (outP i a2 a8 ha8 a13 a14 h8 >>= k) Q) := by
  unfold outP
  simp only [bind_assoc]
  iintro ⟨H2, H8, H13, H14⟩ Hk
  iapply (ldFull_rule 𝒱 c bd E) $$ H13
  iintro H13
  iapply (ldFull_rule 𝒱 c bd E) $$ H14
  iintro H14
  iapply (vscale_rule 𝒱 c bd E i h8) $$ H2
  iintro H2
  iapply (load_owns_full (s := S1x256x128) 𝒱 c bd E) $$ H8
  iintro H8
  iapply (store_owns_full (s := S1x256x128) 𝒱 c bd E) $$ H8
  iintro H8
  iapply Hk
  isplitl [H2]; · iexact H2
  isplitl [H8]; · iexact H8
  isplitl [H13]; · iexact H13
  iexact H14

/-- The end of the body up to the accumulator's store. -/
theorem finP_rule {a4 : Memref sig .tc .vmem S1x1x256 .f32} {a10 a11 a12 a13 a14 : Memref sig .tc .vmem S256x128 .f32}
    {qs : Vec F S1x1x256 .f32} {mx x11 x12 x13 x14 : Vec F S256x128 .f32} {k : FVec F S256x128 .f32 → Prog (TpuEff nD τ sig (Elt F) Λ₀ .tc) α} :
    iprop(owns (c : Thread nD τ) a4 fullShare qs ∗ owns (c : Thread nD τ) a10 fullShare mx ∗ owns (c : Thread nD τ) a11 fullShare x11
        ∗ owns (c : Thread nD τ) a12 fullShare x12 ∗ owns (c : Thread nD τ) a13 fullShare x13 ∗ owns (c : Thread nD τ) a14 fullShare x14)
      ⊢ iprop((owns (c : Thread nD τ) a4 fullShare qs ∗ owns (c : Thread nD τ) a10 fullShare mx ∗ owns (c : Thread nD τ) a11 fullShare (rowMax mx (rowScale qs))
        ∗ owns (c : Thread nD τ) a12 fullShare (rowScale qs) ∗ owns (c : Thread nD τ) a13 fullShare zeros ∗ owns (c : Thread nD τ) a14 fullShare x14
            -∗ wp frame (wpE (defs₀ (F := F)) 𝒱 (c : Thread nD τ) bd) E (k zeros) Q)
        -∗ wp frame (wpE (defs₀ (F := F)) 𝒱 (c : Thread nD τ) bd) E (finP a4 a10 a11 a12 a13 a14 >>= k) Q) := by
  unfold finP
  rw [shapeCast_self]
  simp only [bind_assoc, pure_bind]
  iintro ⟨H4, H10, H11, H12, H13, H14⟩ Hk
  iapply (load_owns_full (s := S1x1x256) 𝒱 c bd E) $$ H4
  iintro H4
  iapply (stFull_rule 𝒱 c bd E) $$ H12
  iintro H12
  iapply (ldFull_rule 𝒱 c bd E) $$ H10
  iintro H10
  iapply (stFull_rule 𝒱 c bd E) $$ H11
  iintro H11
  iapply (stFull_rule 𝒱 c bd E) $$ H13
  iintro H13
  iapply (ldFull_rule 𝒱 c bd E) $$ H14
  iintro H14
  iapply Hk
  isplitl [H4]; · iexact H4
  isplitl [H10]; · iexact H10
  isplitl [H11]; · iexact H11
  isplitl [H12]; · iexact H12
  isplitl [H13]; · iexact H13
  iexact H14

/-- How many blocks the score pass of query block `g` makes. -/
def Env.nT (e : Env F) : ℕ := if e.g < 128 then e.g + 1 else 0

/-- The accumulator at the end of the value passes. -/
def Env.accAll (e : Env F) : FVec F S256x128 .f32 :=
  if e.g < 128 then e.accT (4 * (e.g / 4)) (e.accC (e.g / 4)) (e.g % 4) else e.accL 128

/-- The interleaved loop, with the loop after it that makes no trip. -/
theorem loop1_rule (e : Env F) (B : Bufs) (i : grid0.Coords) (hg : e.g = (i 1).val) (h2 : k0_cond2 i = 1#1)
    {body : Fin (k0_t2_loop i).trips → BitVec 32 → Prog (TpuEff nD τ sig (Elt F) Λ₀ .tc) (BitVec 32)}
    {k : BitVec 32 → Prog (TpuEff nD τ sig (Elt F) Λ₀ .tc) α} :
    (St e B c 0 0 zeros : sProp 𝕄)
      ⊢ iprop((∀ v, St e B c (4 * ((i 1).val / 4)) (4 * ((i 1).val / 4)) (e.accC ((i 1).val / 4)) -∗ wp frame (wpE (defs₀ (F := F)) 𝒱 (c : Thread nD τ) bd) E (k v) Q)
        -∗ wp frame (wpE (defs₀ (F := F)) 𝒱 (c : Thread nD τ) bd) E
          (Scf.Loop.for (k0_t1_loop i) (k0_t1_ok i h2) 0#32 (fun t _ => chunkP i B.a3 B.a5 B.a6 B.a7 B.a9 B.a10 B.a11 B.a12 B.a13 B.a14 h2 t)
            >>= fun v => Scf.Loop.for (k0_t2_loop i) (k0_t2_ok i h2) v body >>= k) Q) := by
  rw [show (St e B c 0 0 zeros : sProp 𝕄) = St e B c (4 * 0) (4 * 0) (e.accC 0) from rfl]
  iintro H Hk
  iapply (Scf.wp_for_bind frame (wpE (defs₀ (F := F)) 𝒱 (c : Thread nD τ) bd) E _ _ _ (k0_t1_ok i h2) 0#32 _
    (fun n _ => St e B c (4 * n) (4 * n) (e.accC n)) (fun t _ => chunk_rule 𝒱 c bd E e B i hg h2 t)) $$ H
  iintro %v H
  iapply (Scf.wp_for_bind frame (wpE (defs₀ (F := F)) 𝒱 (c : Thread nD τ) bd) E _ _ _ (k0_t2_ok i h2) v body
    (fun _ _ => St e B c (4 * (k0_t1_loop i).trips) (4 * (k0_t1_loop i).trips) (e.accC (k0_t1_loop i).trips))
    (fun t _ => absurd (lt_of_lt_of_eq t.isLt (t2_trips i)) (Nat.not_lt_zero _))) $$ H
  iintro %w H
  rw [t1_trips i]
  iapply Hk $$ H

/-- The last pass's loop. -/
theorem loop3_rule (e : Env F) (B : Bufs) (i : grid0.Coords) (hg : e.g = (i 1).val) (h7 : k0_cond7 i = 1#1)
    {k : PUnit → Prog (TpuEff nD τ sig (Elt F) Λ₀ .tc) α} :
    (St e B c 0 0 zeros : sProp 𝕄)
      ⊢ iprop((St e B c 0 128 (e.accL 128) -∗ wp frame (wpE (defs₀ (F := F)) 𝒱 (c : Thread nD τ) bd) E (k ⟨⟩) Q)
        -∗ wp frame (wpE (defs₀ (F := F)) 𝒱 (c : Thread nD τ) bd) E
          (Scf.Loop.for k0_t3_loop (k0_t3_ok i h7) ⟨⟩ (fun t _ => drainP i B.a3 B.a5 B.a6 B.a7 B.a9 B.a10 B.a11 B.a12 B.a13 B.a14 h7 t) >>= k) Q) := by
  rw [show (St e B c 0 0 zeros : sProp 𝕄) = St e B c 0 0 (e.accL 0) from rfl]
  iintro H Hk
  iapply (Scf.wp_for_bind frame (wpE (defs₀ (F := F)) 𝒱 (c : Thread nD τ) bd) E _ _ _ (k0_t3_ok i h7) ⟨⟩ _
    (fun n _ => St e B c 0 n (e.accL n)) (fun t _ => drain_rule 𝒱 c bd E e B i hg h7 t)) $$ H
  iintro %v H
  rw [show Scf.trips k0_t3_loop.lb k0_t3_loop.ub k0_t3_loop.st = 128 from t3_trips]
  iapply Hk $$ H

/-- What the buffers hold after the body, but for the accumulator at `A`. -/
def After (e : Env F) (B : Bufs) (c : Dev nD) (i : grid0.Coords) (a2 : Memref sig .tc .smem S16 .f32) (a4 : Memref sig .tc .vmem S1x1x256 .f32)
    (a8 : Memref sig .tc .vmem S1x256x128 .bf16) (vs : Vec F S16 .f32) (qs : Vec F S1x1x256 .f32) (d : Vec F S1x256x128 .bf16) (A : Vec F S256x128 .f32) : sProp 𝕄 :=
  iprop(∃ SC, ⌜Mix e e.nT SC⌝ ∗ owns (c : Thread nD τ) B.a9 fullShare SC
    ∗ owns (c : Thread nD τ) B.a10 fullShare (maxF e.T e.nT) ∗ owns (c : Thread nD τ) B.a11 fullShare (rowMax (maxF e.T e.nT) (rowScale qs))
    ∗ owns (c : Thread nD τ) B.a12 fullShare (rowScale qs) ∗ owns (c : Thread nD τ) B.a13 fullShare zeros ∗ owns (c : Thread nD τ) B.a14 fullShare A
    ∗ owns (c : Thread nD τ) a2 fullShare vs ∗ owns (c : Thread nD τ) B.a3 fullShare e.q ∗ owns (c : Thread nD τ) a4 fullShare qs
    ∗ owns (c : Thread nD τ) B.a5 fullShare e.ks ∗ owns (c : Thread nD τ) B.a6 fullShare e.k ∗ owns (c : Thread nD τ) B.a7 fullShare e.v
    ∗ owns (c : Thread nD τ) a8 fullShare (if e.g = 0 then d else outBlock (e.sumF e.g) e.accAll (headScale vs i)))

/-- The end of the body, from the state at the end of the loops. -/
theorem end_rule (e : Env F) (B : Bufs) (i : grid0.Coords) (hg : e.g = (i 1).val) {a2 : Memref sig .tc .smem S16 .f32} {a4 : Memref sig .tc .vmem S1x1x256 .f32}
    {a8 : Memref sig .tc .vmem S1x256x128 .bf16} {ha8 : a8.IsWhole} {vs : Vec F S16 .f32} {qs : Vec F S1x1x256 .f32} {d : Vec F S1x256x128 .bf16}
    {k : FVec F S256x128 .f32 → Prog (TpuEff nD τ sig (Elt F) Λ₀ .tc) α} :
    iprop(St e B c e.nT e.g e.accAll ∗ owns (c : Thread nD τ) a2 fullShare vs ∗ owns (c : Thread nD τ) a4 fullShare qs ∗ owns (c : Thread nD τ) a8 fullShare d)
      ⊢ iprop((After e B c i a2 a4 a8 vs qs d e.accAll -∗ wp frame (wpE (defs₀ (F := F)) 𝒱 (c : Thread nD τ) bd) E (k zeros) Q)
        -∗ wp frame (wpE (defs₀ (F := F)) 𝒱 (c : Thread nD τ) bd) E
          ((do
            if h8 : k0_cond8 i = 1#1 then do
              outP i a2 a8 ha8 B.a13 B.a14 h8
              pure ⟨⟩
            else do
              pure ⟨⟩
            finP a4 B.a10 B.a11 B.a12 B.a13 B.a14) >>= k) Q) := by
  unfold St After
  iintro ⟨H, H2, H4, H8⟩ Hk
  icases H with ⟨%SC, %hSC, H9, H10, H13, H14, H11, H12, H3, H5, H6, H7⟩
  by_cases h8 : k0_cond8 i = 1#1
  · have h0 : ¬ e.g = 0 := hg ▸ (cond8_iff i).1 h8
    simp only [dif_pos h8, bind_assoc, pure_bind]
    iapply (outP_rule 𝒱 c bd E i) $$ [H2 H8 H13 H14]
    · isplitl [H2]; · iexact H2
      isplitl [H8]; · iexact H8
      isplitl [H13]; · iexact H13
      iexact H14
    iintro ⟨H2, H8, H13, H14⟩
    iapply (finP_rule 𝒱 c bd E) $$ [H4 H10 H11 H12 H13 H14]
    · isplitl [H4]; · iexact H4
      isplitl [H10]; · iexact H10
      isplitl [H11]; · iexact H11
      isplitl [H12]; · iexact H12
      isplitl [H13]; · iexact H13
      iexact H14
    iintro ⟨H4, H10, H11, H12, H13, H14⟩
    iapply Hk
    iexists SC
    isplitr
    · ipureintro; exact hSC
    rw [if_neg h0]
    isplitl [H9]; · iexact H9
    isplitl [H10]; · iexact H10
    isplitl [H11]; · iexact H11
    isplitl [H12]; · iexact H12
    isplitl [H13]; · iexact H13
    isplitl [H14]; · iexact H14
    isplitl [H2]; · iexact H2
    isplitl [H3]; · iexact H3
    isplitl [H4]; · iexact H4
    isplitl [H5]; · iexact H5
    isplitl [H6]; · iexact H6
    isplitl [H7]; · iexact H7
    iexact H8
  · have h0 : e.g = 0 := by
      by_contra h
      exact h8 ((cond8_iff i).2 (hg ▸ h))
    simp only [dif_neg h8, bind_assoc, pure_bind]
    iapply (finP_rule 𝒱 c bd E) $$ [H4 H10 H11 H12 H13 H14]
    · isplitl [H4]; · iexact H4
      isplitl [H10]; · iexact H10
      isplitl [H11]; · iexact H11
      isplitl [H12]; · iexact H12
      isplitl [H13]; · iexact H13
      iexact H14
    iintro ⟨H4, H10, H11, H12, H13, H14⟩
    iapply Hk
    iexists SC
    isplitr
    · ipureintro; exact hSC
    rw [if_pos h0]
    isplitl [H9]; · iexact H9
    isplitl [H10]; · iexact H10
    isplitl [H11]; · iexact H11
    isplitl [H12]; · iexact H12
    isplitl [H13]; · iexact H13
    isplitl [H14]; · iexact H14
    isplitl [H2]; · iexact H2
    isplitl [H3]; · iexact H3
    isplitl [H4]; · iexact H4
    isplitl [H5]; · iexact H5
    isplitl [H6]; · iexact H6
    isplitl [H7]; · iexact H7
    iexact H8

/-- The body after the maxima are reset. -/
theorem restP_rule (e : Env F) (i : grid0.Coords) (hg : e.g = (i 1).val) (arg2 : Memref sig .tc .smem S16 .f32) (harg2 : arg2.IsWhole) (arg3 : Memref sig .tc .vmem S1x256x256 .fp8e4m3) (harg3 : arg3.IsWhole) (arg4 : Memref sig .tc .vmem S1x1x256 .f32) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x32768x128 .fp8e4m3) (harg7 : arg7.IsWhole) (arg8 : Memref sig .tc .vmem S1x256x128 .bf16) (harg8 : arg8.IsWhole) (arg9 : Memref sig .tc .vmem S128x256x256 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (a0 a1 v23 v33 v35 c0 : BitVec 32) {vs : Vec F S16 .f32} {qs : Vec F S1x1x256 .f32} {d : Vec F S1x256x128 .bf16}
    {k : FVec F S256x128 .f32 → Prog (TpuEff nD τ sig (Elt F) Λ₀ .tc) α} :
    iprop(St e ⟨arg3, arg5, arg6, arg7, arg9, arg10, arg11, arg12, arg13, arg14⟩ c 0 0 zeros ∗ owns (c : Thread nD τ) arg2 fullShare vs ∗ owns (c : Thread nD τ) arg4 fullShare qs ∗ owns (c : Thread nD τ) arg8 fullShare d)
      ⊢ iprop((After e ⟨arg3, arg5, arg6, arg7, arg9, arg10, arg11, arg12, arg13, arg14⟩ c i arg2 arg4 arg8 vs qs d e.accAll -∗ wp frame (wpE (defs₀ (F := F)) 𝒱 (c : Thread nD τ) bd) E (k zeros) Q)
        -∗ wp frame (wpE (defs₀ (F := F)) 𝒱 (c : Thread nD τ) bd) E
          (restP i arg2 harg2 arg3 harg3 arg4 harg4 arg5 harg5 arg6 harg6 arg7 harg7 arg8 harg8 arg9 harg9 arg10 harg10 arg11 harg11 arg12 harg12 arg13 harg13 arg14 harg14 a0 a1 v23 v33 v35 c0 >>= k) Q) := by
  have hend := end_rule 𝒱 c bd E e ⟨arg3, arg5, arg6, arg7, arg9, arg10, arg11, arg12, arg13, arg14⟩ i hg (Q := Q) (k := k) (a2 := arg2) (a4 := arg4) (a8 := arg8) (ha8 := harg8) (vs := vs) (qs := qs) (d := d)
  have hi : (i 1).val < 129 := (i 1).isLt
  unfold restP
  by_cases h2 : k0_cond2 i = 1#1
  · have hg' : (i 1).val < 128 := (cond2_iff i).1 h2
    have h7 : ¬ k0_cond7 i = 1#1 := fun h => by have := (cond7_iff i).1 h; omega
    rw [show e.nT = e.g + 1 from if_pos (by omega), show e.accAll = e.accT (4 * (e.g / 4)) (e.accC (e.g / 4)) (e.g % 4) from if_pos (by omega)] at hend
    rw [show e.accAll = e.accT (4 * (e.g / 4)) (e.accC (e.g / 4)) (e.g % 4) from if_pos (by omega)]
    simp only [dif_pos h2, dif_neg h7, bind_assoc, pure_bind] at hend ⊢
    iintro ⟨H, H2, H4, H8⟩ Hk
    iapply (loop1_rule 𝒱 c bd E e ⟨arg3, arg5, arg6, arg7, arg9, arg10, arg11, arg12, arg13, arg14⟩ i hg h2) $$ H
    iintro %v H
    have hr : (i 1).val % 4 = 0 ∨ (i 1).val % 4 = 1 ∨ (i 1).val % 4 = 2 ∨ (i 1).val % 4 = 3 := by omega
    have key : ∀ r, (i 1).val % 4 = r → (St e ⟨arg3, arg5, arg6, arg7, arg9, arg10, arg11, arg12, arg13, arg14⟩ c (4 * ((i 1).val / 4) + r + 1) (4 * ((i 1).val / 4) + r) (e.accT (4 * ((i 1).val / 4)) (e.accC ((i 1).val / 4)) r) : sProp 𝕄)
        ⊢ St e ⟨arg3, arg5, arg6, arg7, arg9, arg10, arg11, arg12, arg13, arg14⟩ c (e.g + 1) e.g (e.accT (4 * (e.g / 4)) (e.accC (e.g / 4)) (e.g % 4)) := by
      rintro r rfl
      rw [hg, show 4 * ((i 1).val / 4) + (i 1).val % 4 = (i 1).val by omega]
    rcases hr with hr | hr | hr | hr
    · simp only [dif_pos ((cond3_iff i).2 hr), dif_neg (mt (cond4_iff i).1 (by omega)), dif_neg (mt (cond5_iff i).1 (by omega)), dif_neg (mt (cond6_iff i).1 (by omega)), bind_assoc, pure_bind]
      iapply (tail0_rule 𝒱 c bd E e ⟨arg3, arg5, arg6, arg7, arg9, arg10, arg11, arg12, arg13, arg14⟩ i hg h2 ((cond3_iff i).2 hr)) $$ H
      iintro H
      iapply hend $$ [H H2 H4 H8]
      · isplitl [H]
        · iapply (key _ hr)
          iexact H
        isplitl [H2]; · iexact H2
        isplitl [H4]; · iexact H4
        iexact H8
      iexact Hk
    · simp only [dif_neg (mt (cond3_iff i).1 (by omega)), dif_pos ((cond4_iff i).2 hr), dif_neg (mt (cond5_iff i).1 (by omega)), dif_neg (mt (cond6_iff i).1 (by omega)), bind_assoc, pure_bind]
      iapply (tail1_rule 𝒱 c bd E e ⟨arg3, arg5, arg6, arg7, arg9, arg10, arg11, arg12, arg13, arg14⟩ i hg h2 ((cond4_iff i).2 hr)) $$ H
      iintro H
      iapply hend $$ [H H2 H4 H8]
      · isplitl [H]
        · iapply (key _ hr)
          iexact H
        isplitl [H2]; · iexact H2
        isplitl [H4]; · iexact H4
        iexact H8
      iexact Hk
    · simp only [dif_neg (mt (cond3_iff i).1 (by omega)), dif_neg (mt (cond4_iff i).1 (by omega)), dif_pos ((cond5_iff i).2 hr), dif_neg (mt (cond6_iff i).1 (by omega)), bind_assoc, pure_bind]
      iapply (tail2_rule 𝒱 c bd E e ⟨arg3, arg5, arg6, arg7, arg9, arg10, arg11, arg12, arg13, arg14⟩ i hg h2 ((cond5_iff i).2 hr)) $$ H
      iintro H
      iapply hend $$ [H H2 H4 H8]
      · isplitl [H]
        · iapply (key _ hr)
          iexact H
        isplitl [H2]; · iexact H2
        isplitl [H4]; · iexact H4
        iexact H8
      iexact Hk
    · simp only [dif_neg (mt (cond3_iff i).1 (by omega)), dif_neg (mt (cond4_iff i).1 (by omega)), dif_neg (mt (cond5_iff i).1 (by omega)), dif_pos ((cond6_iff i).2 hr), bind_assoc, pure_bind]
      iapply (tail3_rule 𝒱 c bd E e ⟨arg3, arg5, arg6, arg7, arg9, arg10, arg11, arg12, arg13, arg14⟩ i hg h2 ((cond6_iff i).2 hr)) $$ H
      iintro H
      iapply hend $$ [H H2 H4 H8]
      · isplitl [H]
        · iapply (key _ hr)
          iexact H
        isplitl [H2]; · iexact H2
        isplitl [H4]; · iexact H4
        iexact H8
      iexact Hk
  · have hg' : (i 1).val = 128 := by
      have := mt (cond2_iff i).2 h2
      omega
    have h7 : k0_cond7 i = 1#1 := (cond7_iff i).2 hg'
    rw [show e.nT = 0 from if_neg (by omega), show e.accAll = e.accL 128 from if_neg (by omega), show e.g = 128 by omega] at hend
    rw [show e.accAll = e.accL 128 from if_neg (by omega)]
    simp only [dif_neg h2, dif_pos h7, bind_assoc, pure_bind] at hend ⊢
    iintro ⟨H, H2, H4, H8⟩ Hk
    iapply (loop3_rule 𝒱 c bd E e ⟨arg3, arg5, arg6, arg7, arg9, arg10, arg11, arg12, arg13, arg14⟩ i hg h7) $$ H
    iintro H
    iapply hend $$ [H H2 H4 H8]
    · isplitl [H]; · iexact H
      isplitl [H2]; · iexact H2
      isplitl [H4]; · iexact H4
      iexact H8
    iexact Hk

end Cert.Proof.K

end
-- ==== Proof.K.Attend.lean ====
/-
  The whole body at one grid point.
-/
module

public import proofs.«01_k».proof.Proof.K.Body

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱 : Variants) (c : Dev nD) (bd : Option 𝒱.V) (E : Set ℕ)

/-- The store of the accumulator, which ends the body. -/
theorem last_rule (e : Env F) (B : Bufs) (i : grid0.Coords) {a2 : Memref sig .tc .smem S16 .f32} {a4 : Memref sig .tc .vmem S1x1x256 .f32}
    {a8 : Memref sig .tc .vmem S1x256x128 .bf16} {vs : Vec F S16 .f32} {qs : Vec F S1x1x256 .f32} {d : Vec F S1x256x128 .bf16} {X : Vec F S256x128 .f32}
    {hx : (B.a14.access (Rect.unit (s := S256x128) ![0, 0] S256x128.size inb_S256x128_S256x128_0_0)).Stores Finset.univ}
    {hm : Finset.univ = Finset.univ ∨ ∀ a, (Rect.unit (s := S256x128) ![0, 0] S256x128.size inb_S256x128_S256x128_0_0).stride a = 1} :
    (After e B c i a2 a4 a8 vs qs d X : sProp 𝕄)
      ⊢ wp frame (wpE (defs₀ (F := F)) 𝒱 (c : Thread nD τ) bd) E
          (Prog.lift (.store B.a14 (Rect.unit (s := S256x128) ![0, 0] S256x128.size inb_S256x128_S256x128_0_0) zeros Finset.univ hx hm) >>= fun _ => (pure PUnit.unit : Prog (TpuEff nD τ sig (Elt F) Λ₀ .tc) PUnit))
          (fun _ => After e B c i a2 a4 a8 vs qs d zeros) := by
  unfold After
  iintro H
  icases H with ⟨%SC, %hSC, H9, H10, H11, H12, H13, H14, HR⟩
  iapply (store_owns_full (s := S256x128) 𝒱 c bd E) $$ H14
  iintro H14
  iapply (pure_rule 𝒱 c bd E (Q := fun _ => After e B c i a2 a4 a8 vs qs d zeros))
  unfold After
  iexists SC
  isplitr
  · ipureintro; exact hSC
  isplitl [H9]; · iexact H9
  isplitl [H10]; · iexact H10
  isplitl [H11]; · iexact H11
  isplitl [H12]; · iexact H12
  isplitl [H13]; · iexact H13
  isplitl [H14]; · iexact H14
  iexact HR

/-- The whole body. -/
theorem attend_rule (e : Env F) (i : grid0.Coords) (hg : e.g = (i 1).val) (arg2 : Memref sig .tc .smem S16 .f32) (harg2 : arg2.IsWhole) (arg3 : Memref sig .tc .vmem S1x256x256 .fp8e4m3) (harg3 : arg3.IsWhole) (arg4 : Memref sig .tc .vmem S1x1x256 .f32) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x32768x128 .fp8e4m3) (harg7 : arg7.IsWhole) (arg8 : Memref sig .tc .vmem S1x256x128 .bf16) (harg8 : arg8.IsWhole) (arg9 : Memref sig .tc .vmem S128x256x256 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    {vs : Vec F S16 .f32} {qs : Vec F S1x1x256 .f32} {d : Vec F S1x256x128 .bf16} {SC : Vec F S128x256x256 .f32} {X10 X13 X14 : Vec F S256x128 .f32}
    (hSC : Mix e 0 SC) (h13 : e.g ≠ 0 → X13 = zeros) (h14 : e.g ≠ 0 → X14 = zeros) :
    iprop(owns (c : Thread nD τ) arg9 fullShare SC ∗ owns (c : Thread nD τ) arg10 fullShare X10 ∗ owns (c : Thread nD τ) arg11 fullShare e.M
        ∗ owns (c : Thread nD τ) arg12 fullShare e.C ∗ owns (c : Thread nD τ) arg13 fullShare X13 ∗ owns (c : Thread nD τ) arg14 fullShare X14
        ∗ owns (c : Thread nD τ) arg2 fullShare vs ∗ owns (c : Thread nD τ) arg3 fullShare e.q ∗ owns (c : Thread nD τ) arg4 fullShare qs
        ∗ owns (c : Thread nD τ) arg5 fullShare e.ks ∗ owns (c : Thread nD τ) arg6 fullShare e.k ∗ owns (c : Thread nD τ) arg7 fullShare e.v
        ∗ owns (c : Thread nD τ) arg8 fullShare d : sProp 𝕄)
      ⊢ wp frame (wpE (defs₀ (F := F)) 𝒱 (c : Thread nD τ) bd) E (cc0_attend i arg2 harg2 arg3 harg3 arg4 harg4 arg5 harg5 arg6 harg6 arg7 harg7 arg8 harg8 arg9 harg9 arg10 harg10 arg11 harg11 arg12 harg12 arg13 harg13 arg14 harg14)
          (fun _ => After e ⟨arg3, arg5, arg6, arg7, arg9, arg10, arg11, arg12, arg13, arg14⟩ c i arg2 arg4 arg8 vs qs d zeros) := by
  have hlast := fun hx hm => last_rule 𝒱 c bd E e ⟨arg3, arg5, arg6, arg7, arg9, arg10, arg11, arg12, arg13, arg14⟩ i (a2 := arg2) (a4 := arg4) (a8 := arg8) (vs := vs) (qs := qs) (d := d) (X := e.accAll) (hx := hx) (hm := hm)
  unfold cc0_attend
  by_cases h : isFirst i = 1#1
  · rw [part24_pos i arg2 harg2 arg3 harg3 arg4 harg4 arg5 harg5 arg6 harg6 arg7 harg7 arg8 harg8 arg9 harg9 arg10 harg10 arg11 harg11 arg12 harg12 arg13 harg13 arg14 harg14 h]
    simp only [bind_assoc, pure_bind, part25_eq]
    iintro ⟨H9, H10, H11, H12, H13, H14, H2, H3, H4, H5, H6, H7, H8⟩
    iapply (stFull_rule 𝒱 c bd E) $$ H13
    iintro H13
    iapply (stFull_rule 𝒱 c bd E) $$ H14
    iintro H14
    iapply (stFull_rule 𝒱 c bd E) $$ H10
    iintro H10
    iapply (restP_rule 𝒱 c bd E e i hg arg2 harg2 arg3 harg3 arg4 harg4 arg5 harg5 arg6 harg6 arg7 harg7 arg8 harg8 arg9 harg9 arg10 harg10 arg11 harg11 arg12 harg12 arg13 harg13 arg14 harg14 _ _ _ _ _ _) $$ [H9 H10 H13 H14 H11 H12 H3 H5 H6 H7 H2 H4 H8]
    · isplitl [H9 H10 H13 H14 H11 H12 H3 H5 H6 H7]
      · unfold St
        iexists SC
        isplitr
        · ipureintro; exact hSC
        isplitl [H9]; · iexact H9
        isplitl [H10]; · iexact H10
        isplitl [H13]; · iexact H13
        isplitl [H14]; · iexact H14
        isplitl [H11]; · iexact H11
        isplitl [H12]; · iexact H12
        isplitl [H3]; · iexact H3
        isplitl [H5]; · iexact H5
        isplitl [H6]; · iexact H6
        iexact H7
      isplitl [H2]; · iexact H2
      isplitl [H4]; · iexact H4
      iexact H8
    iintro H
    iapply hlast $$ H
  · have h0 : e.g ≠ 0 := fun h' => h ((isFirst_iff i).2 (hg ▸ h'))
    obtain rfl := h13 h0
    obtain rfl := h14 h0
    rw [part24_neg i arg2 harg2 arg3 harg3 arg4 harg4 arg5 harg5 arg6 harg6 arg7 harg7 arg8 harg8 arg9 harg9 arg10 harg10 arg11 harg11 arg12 harg12 arg13 harg13 arg14 harg14 h]
    simp only [bind_assoc, pure_bind, part25_eq]
    iintro ⟨H9, H10, H11, H12, H13, H14, H2, H3, H4, H5, H6, H7, H8⟩
    iapply (stFull_rule 𝒱 c bd E) $$ H10
    iintro H10
    iapply (restP_rule 𝒱 c bd E e i hg arg2 harg2 arg3 harg3 arg4 harg4 arg5 harg5 arg6 harg6 arg7 harg7 arg8 harg8 arg9 harg9 arg10 harg10 arg11 harg11 arg12 harg12 arg13 harg13 arg14 harg14 _ _ _ _ _ _) $$ [H9 H10 H13 H14 H11 H12 H3 H5 H6 H7 H2 H4 H8]
    · isplitl [H9 H10 H13 H14 H11 H12 H3 H5 H6 H7]
      · unfold St
        iexists SC
        isplitr
        · ipureintro; exact hSC
        isplitl [H9]; · iexact H9
        isplitl [H10]; · iexact H10
        isplitl [H13]; · iexact H13
        isplitl [H14]; · iexact H14
        isplitl [H11]; · iexact H11
        isplitl [H12]; · iexact H12
        isplitl [H3]; · iexact H3
        isplitl [H5]; · iexact H5
        isplitl [H6]; · iexact H6
        iexact H7
      isplitl [H2]; · iexact H2
      isplitl [H4]; · iexact H4
      iexact H8
    iintro H
    iapply hlast $$ H

end Cert.Proof.K

end
-- ==== Proof.K.Points.lean ====
/-
  The grid's points: point `t` is head `t / 129` and query block `t % 129` of it, and which block of the result it is at.
-/
module

public import proofs.«01_k».proof.Proof.K.Offsets

@[expose] public section

noncomputable section

namespace Cert.Proof.K

open Cert.KernelIdeal Cert.KernelIdeal.Gen

open Idealize.ShloMosaic Idealize.ShloMosaic.TcCoe

variable {F : FTy → Type} [FloatOps F]

/-- The head of point `t`. -/
theorem coords0 (t : Fin grid0.N) : (grid0.coords t 0).val = t.val / 129 := by
  have h := Pipeline.Grid.coords_val (G := grid0) t (0 : Fin 2) (S := 129) (B := 16) (by decide) rfl
  have hN := N_0
  have := t.isLt
  rw [h]; omega
/-- The query block of point `t`. -/
theorem coords1 (t : Fin grid0.N) : (grid0.coords t 1).val = t.val % 129 := by
  have h := Pipeline.Grid.coords_val (G := grid0) t (1 : Fin 2) (S := 1) (B := 129) (by decide) rfl
  rw [h, Nat.div_one]

theorem predWord : ∀ g : Fin 129, (Scalar.maxsi (Scalar.subi (BitVec.ofNat 32 g.val) 1#32) 0#32 : BitVec 32).toNat = g.val - 1 := by decide +kernel
theorem minWord : ∀ g : Fin 129, (Scalar.minsi (BitVec.ofNat 32 g.val) 127#32 : BitVec 32).toNat = min g.val 127 := by decide +kernel
theorem headWord : ∀ h : Fin 16, (BitVec.ofNat 32 h.val).toNat = h.val := by decide +kernel

/-- The result's block at a point is the query block before its own. -/
theorem outIndex (i : grid0.Coords) : cc0_transform_6 i = ![(i 0).val, (i 1).val - 1, 0] := by
  have h := predWord (i 1)
  have h' := headWord (i 0)
  unfold cc0_transform_6
  dsimp only
  rw [h, h']; rfl

/-- The query codes' block at a point is its query block, the last point at the last. -/
theorem qIndex (i : grid0.Coords) : cc0_transform_1 i = ![(i 0).val, min (i 1).val 127, 0] := by
  have h := minWord (i 1)
  have h' := headWord (i 0)
  unfold cc0_transform_1
  dsimp only
  rw [h, h']; rfl

/-- At a head's first point the result's block is not written back. -/
theorem flush6_first (t : Fin cfg0.N) (h : t.val % 129 = 0) : (cfg0.win 6).flush t = false := by
  have hN : grid0.N = 2064 := N_0
  have ht : t.val < grid0.N := t.isLt
  show win0_6.flush t = false
  rw [Pipeline.Window.flush_eq_flushOf]
  unfold Pipeline.Window.flushOf
  rw [Bool.and_eq_false_iff]; right
  rw [Bool.or_eq_false_iff]
  refine ⟨decide_eq_false fun h' => ?_, decide_eq_false ?_⟩
  · have : t.val + 1 = grid0.N := h'
    omega
  · rintro ⟨h1, h2⟩
    refine h2 ?_
    show cc0_transform_6 _ = cc0_transform_6 _
    have h1' : t.val + 1 < grid0.N := h1
    have e0 := coords0 ⟨t.val + 1, h1'⟩
    have e1 := coords1 ⟨t.val + 1, h1'⟩
    have f0 := coords0 t
    have f1 := coords1 t
    rw [outIndex, outIndex]
    have a0 : (grid0.coords ⟨t.val + 1, h1'⟩ 0).val = (grid0.coords t 0).val := by rw [e0, f0]; show (t.val + 1) / 129 = _; omega
    have a1 : (grid0.coords ⟨t.val + 1, h1'⟩ 1).val - 1 = (grid0.coords t 1).val - 1 := by rw [e1, f1]; show (t.val + 1) % 129 - 1 = _; omega
    rw [a0, a1]

/-- At every other point it is. -/
theorem flush6_later (t : Fin cfg0.N) (h : t.val % 129 ≠ 0) : (cfg0.win 6).flush t = true := by
  have hN : grid0.N = 2064 := N_0
  have ht : t.val < grid0.N := t.isLt
  show win0_6.flush t = true
  rw [Pipeline.Window.flush_eq_flushOf]
  unfold Pipeline.Window.flushOf
  rw [Bool.and_eq_true_iff]
  refine ⟨rfl, ?_⟩
  rw [Bool.or_eq_true_iff]
  by_cases hl : t.val + 1 = grid0.N
  · left; exact decide_eq_true hl
  right
  refine decide_eq_true ⟨(by omega : t.val + 1 < grid0.N), fun h2 => ?_⟩
  have h1' : t.val + 1 < grid0.N := by omega
  have h2' : cc0_transform_6 (grid0.coords ⟨t.val + 1, h1'⟩) = cc0_transform_6 (grid0.coords t) := h2
  rw [outIndex, outIndex] at h2'
  have b0 : (grid0.coords ⟨t.val + 1, h1'⟩ 0).val = (grid0.coords t 0).val := congrFun h2' 0
  have b1 : (grid0.coords ⟨t.val + 1, h1'⟩ 1).val - 1 = (grid0.coords t 1).val - 1 := congrFun h2' 1
  rw [coords0, coords0] at b0
  rw [coords1, coords1] at b1
  have c0 : (t.val + 1) / 129 = t.val / 129 := b0
  have c1 : (t.val + 1) % 129 - 1 = t.val % 129 - 1 := b1
  omega

/-- The result's window is idle at a head's first point only. -/
theorem idle6_iff (i : grid0.Coords) : cfg0.idle 6 i = true ↔ (i 1).val = 0 := by
  have h := cond8_iff i
  show (!(k0_cond8 i == 1#1)) = true ↔ _
  rw [Bool.not_eq_true', beq_eq_false_iff_ne]
  exact ⟨fun h' => by_contra fun h'' => h' (h.2 h''), fun h' h'' => h.1 h'' h'⟩

end Cert.Proof.K

end
-- ==== Proof.K.Dats.lean ====
/-
  What every buffer holds at every point of the grid.
-/
module

public import proofs.«01_k».proof.Proof.K.Attend
public import proofs.«01_k».proof.Proof.K.Points

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## The blocks at a point -/

/-- The value scales, -/
def vsAt (t : Fin cfg0.N) : Vec F S16 .f32 := iblk m c 0 t
/-- the query codes, -/
def qAt (t : Fin cfg0.N) : Vec F S1x256x256 .fp8e4m3 := iblk m c 1 t
/-- their scales, -/
def qsAt (t : Fin cfg0.N) : Vec F S1x1x256 .f32 := iblk m c 2 t
/-- the key scales, -/
def ksAt (t : Fin cfg0.N) : Vec F S1x1x32768 .f32 := iblk m c 3 t
/-- the key codes -/
def kAt (t : Fin cfg0.N) : Vec F S1x32768x256 .fp8e4m3 := iblk m c 4 t
/-- and the values. -/
def vAt (t : Fin cfg0.N) : Vec F S1x32768x128 .fp8e4m3 := iblk m c 5 t

/-- The scores point `t` computes. -/
def scoresAt (t : Fin cfg0.N) (j : ℕ) : FVec F S256x256 .f32 := scoreOf (qAt m c t) (ksAt m c t) (kAt m c t) (t.val % 129) j

/-- The scales of point `t`'s queries, -/
def scalesAt (t : Fin cfg0.N) : FVec F S256x128 .f32 := rowScale (qsAt m c t)
/-- and the maxima of their scores. -/
def maxAt (t : Fin cfg0.N) : FVec F S256x128 .f32 := rowMax (maxF (scoresAt m c t) (t.val % 129 + 1)) (scalesAt m c t)

/-- The point before. -/
def before (t : Fin cfg0.N) : Fin cfg0.N := ⟨t.val - 1, lt_of_le_of_lt (Nat.sub_le _ _) t.isLt⟩

/-- The pass of point `t`, from the scores, scales and maxima the point before left. -/
def envAt (t : Fin cfg0.N) : Env F where
  q := qAt m c t
  ks := ksAt m c t
  k := kAt m c t
  v := vAt m c t
  P := scoresAt m c (before t)
  C := scalesAt m c (before t)
  M := maxAt m c (before t)
  g := t.val % 129

/-- The result's block at point `t`. -/
def outAt (t : Fin cfg0.N) : Vec F S1x256x128 .bf16 :=
  outBlock ((envAt m c t).sumF (envAt m c t).g) (envAt m c t).accAll (headScale (vsAt m c t) (grid0.coords t))

/-! ## The scratch between two points -/

/-- The scratch after point `t`, when the next point is of the same head. -/
def Carry (t : Fin cfg0.N) : sProp 𝕄 :=
  iprop((∃ SC : Vec F S128x256x256 .f32, ∃ X : Vec F S256x128 .f32, ⌜∀ l < t.val % 129 + 1, l < 128 → Slab SC l (scoresAt m c t l)⌝
    ∗ owns (c : Thread nD τ) (Memref.whole cc0_scratch0) fullShare SC ∗ owns (c : Thread nD τ) (Memref.whole cc0_scratch1) fullShare X
    ∗ owns (c : Thread nD τ) (Memref.whole cc0_scratch2) fullShare (maxAt m c t) ∗ owns (c : Thread nD τ) (Memref.whole cc0_scratch3) fullShare (scalesAt m c t)
    ∗ owns (c : Thread nD τ) (Memref.whole cc0_scratch4) fullShare (zeros (F := F)) ∗ owns (c : Thread nD τ) (Memref.whole cc0_scratch5) fullShare (zeros (F := F)))
    ∗ ∃ r, prngReg c r)

/-- The scratch before point `n`: anything at a head's first, what the point before left at any other. -/
def Between (n : ℕ) (h : n ≤ cfg0.N) : sProp 𝕄 :=
  if h0 : n % 129 = 0 then Pipeline.ΦA spec0 c
  else Carry m c ⟨n - 1, by have h1 : n ≠ 0 := fun h' => h0 (by rw [h']); exact lt_of_lt_of_le (Nat.sub_lt (Nat.pos_of_ne_zero h1) Nat.one_pos) h⟩

theorem Between.zero (n : ℕ) (h : n ≤ cfg0.N) (h0 : n % 129 = 0) : (Between m c n h : sProp 𝕄) = Pipeline.ΦA spec0 c := by
  unfold Between; rw [dif_pos h0]
theorem Between.pos (t : Fin cfg0.N) (h : t.val ≤ cfg0.N) (h0 : t.val % 129 ≠ 0) : (Between m c t.val h : sProp 𝕄) = Carry m c (before t) := by
  unfold Between; rw [dif_neg h0]; rfl
theorem Between.succ (t : Fin cfg0.N) (h : t.val + 1 ≤ cfg0.N) (h0 : (t.val + 1) % 129 ≠ 0) : (Between m c (t.val + 1) h : sProp 𝕄) = Carry m c t := by
  unfold Between; rw [dif_neg h0]; rfl

/-! ## The proof data -/

/-- The arrays as launched; after the body every operand's block as before it and the result's block the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Between m c t.val (Nat.le_of_lt_succ t.isLt)
  q _ := fullShare
  owed _ := 0

theorem A_eq (w : Fin cfg0.W) : (dats m 0 c).A w = V m c (Pipeline.arrRef spec0 w) := by
  dsimp only [dats]

theorem after0_0 (t : Fin cfg0.N) : (dats m 0 c).after 0 t = vsAt m c t := by dsimp only [dats]; rfl
theorem after0_1 (t : Fin cfg0.N) : (dats m 0 c).after 1 t = qAt m c t := by dsimp only [dats]; rfl
theorem after0_2 (t : Fin cfg0.N) : (dats m 0 c).after 2 t = qsAt m c t := by dsimp only [dats]; rfl
theorem after0_3 (t : Fin cfg0.N) : (dats m 0 c).after 3 t = ksAt m c t := by dsimp only [dats]; rfl
theorem after0_4 (t : Fin cfg0.N) : (dats m 0 c).after 4 t = kAt m c t := by dsimp only [dats]; rfl
theorem after0_5 (t : Fin cfg0.N) : (dats m 0 c).after 5 t = vAt m c t := by dsimp only [dats]; rfl
theorem after0_6 (t : Fin cfg0.N) : (dats m 0 c).after 6 t = outAt m c t := by dsimp only [dats]

theorem before0_0 (t : Fin cfg0.N) (d) : (dats m 0 c).before 0 t d = vsAt m c t := before0_0_of m (dats m 0 c) (A_eq m c 0) (after0_0 m c) t d
theorem before0_1 (t : Fin cfg0.N) (d) : (dats m 0 c).before 1 t d = qAt m c t := before0_1_of m (dats m 0 c) (A_eq m c 1) (after0_1 m c) t d
theorem before0_2 (t : Fin cfg0.N) (d) : (dats m 0 c).before 2 t d = qsAt m c t := before0_2_of m (dats m 0 c) (A_eq m c 2) (after0_2 m c) t d
theorem before0_3 (t : Fin cfg0.N) (d) : (dats m 0 c).before 3 t d = ksAt m c t := before0_3_of m (dats m 0 c) (A_eq m c 3) (after0_3 m c) t d
theorem before0_4 (t : Fin cfg0.N) (d) : (dats m 0 c).before 4 t d = kAt m c t := before0_4_of m (dats m 0 c) (A_eq m c 4) (after0_4 m c) t d
theorem before0_5 (t : Fin cfg0.N) (d) : (dats m 0 c).before 5 t d = vAt m c t := before0_5_of m (dats m 0 c) (A_eq m c 5) (after0_5 m c) t d

theorem Phi_castSucc (t : Fin cfg0.N) : (dats m 0 c).Φ t.castSucc = Between m c t.val (Nat.le_of_lt t.isLt) := by
  dsimp only [dats]
  exact Pipeline.Dat.Φ_castSucc (Between m c) t
theorem Phi_succ (t : Fin cfg0.N) : (dats m 0 c).Φ t.succ = Between m c (t.val + 1) t.isLt := by
  dsimp only [dats]
  rfl

end Cert.Proof.K

end
-- ==== Proof.K.Oblig.lean ====
/-
  The body at every point of the grid: from what the buffers hold before the point to what they hold after it.
-/
module

public import proofs.«01_k».proof.Proof.K.Dats

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The pass of point `t` from any scores, scales and maxima of a pass before. -/
def envWith (t : Fin cfg0.N) (P : ℕ → FVec F S256x256 .f32) (C M : FVec F S256x128 .f32) : Env F where
  q := qAt m c t
  ks := ksAt m c t
  k := kAt m c t
  v := vAt m c t
  P := P
  C := C
  M := M
  g := t.val % 129

theorem envWith_T (t : Fin cfg0.N) (P : ℕ → FVec F S256x256 .f32) (C M : FVec F S256x128 .f32) : (envWith m c t P C M).T = scoresAt m c t := rfl

/-- The buffers of point `t`. -/
def bufsAt (t : Fin cfg0.N) : Bufs :=
  ⟨win0_1.stage (cfg0.slots t 1), win0_3.stage (cfg0.slots t 3), win0_4.stage (cfg0.slots t 4), win0_5.stage (cfg0.slots t 5), Memref.whole cc0_scratch0, Memref.whole cc0_scratch1,
    Memref.whole cc0_scratch2, Memref.whole cc0_scratch3, Memref.whole cc0_scratch4, Memref.whole cc0_scratch5⟩

/-- The operands' blocks at point `t`, and `x` in the result's. -/
def Ops (t : Fin cfg0.N) (x : Vec F S1x256x128 .bf16) : sProp 𝕄 :=
  iprop(owns (c : Thread nD τ) (win0_0.stage (cfg0.slots t 0)) fullShare (vsAt m c t) ∗ owns (c : Thread nD τ) (win0_1.stage (cfg0.slots t 1)) fullShare (qAt m c t)
    ∗ owns (c : Thread nD τ) (win0_2.stage (cfg0.slots t 2)) fullShare (qsAt m c t) ∗ owns (c : Thread nD τ) (win0_3.stage (cfg0.slots t 3)) fullShare (ksAt m c t)
    ∗ owns (c : Thread nD τ) (win0_4.stage (cfg0.slots t 4)) fullShare (kAt m c t) ∗ owns (c : Thread nD τ) (win0_5.stage (cfg0.slots t 5)) fullShare (vAt m c t)
    ∗ owns (c : Thread nD τ) (win0_6.stage (cfg0.slots t 6)) fullShare x)

/-- Any contents of the scratch are what a head may start from. -/
theorem forget (X0 : Vec F S128x256x256 .f32) (X1 X2 X3 X4 X5 : Vec F S256x128 .f32) :
    iprop(owns (c : Thread nD τ) (Memref.whole cc0_scratch0) fullShare X0 ∗ owns (c : Thread nD τ) (Memref.whole cc0_scratch1) fullShare X1
      ∗ owns (c : Thread nD τ) (Memref.whole cc0_scratch2) fullShare X2 ∗ owns (c : Thread nD τ) (Memref.whole cc0_scratch3) fullShare X3
      ∗ owns (c : Thread nD τ) (Memref.whole cc0_scratch4) fullShare X4 ∗ owns (c : Thread nD τ) (Memref.whole cc0_scratch5) fullShare X5
      ∗ (∃ r, prngReg c r) : sProp 𝕄) ⊢ Pipeline.ΦA spec0 c := by
  unfold Pipeline.ΦA
  rw [scopedRest0_eq, owns_whole, owns_whole, owns_whole, owns_whole, owns_whole, owns_whole]
  iintro ⟨H0, H1, H2, H3, H4, H5, HR⟩
  isplitr [HR]
  · isplitl [H0]; · iexists X0; iexact H0
    isplitl [H1]; · iexists X1; iexact H1
    isplitl [H2]; · iexists X2; iexact H2
    isplitl [H3]; · iexists X3; iexact H3
    isplitl [H4]; · iexists X4; iexact H4
    iexists X5; iexact H5
  iexact HR

/-- What a head starts from is some contents of the scratch. -/
theorem remember :
    (Pipeline.ΦA spec0 c : sProp 𝕄) ⊢ iprop(∃ X0 : Vec F S128x256x256 .f32, ∃ X1 : Vec F S256x128 .f32, ∃ X2 : Vec F S256x128 .f32, ∃ X3 : Vec F S256x128 .f32, ∃ X4 : Vec F S256x128 .f32, ∃ X5 : Vec F S256x128 .f32,
      owns (c : Thread nD τ) (Memref.whole cc0_scratch0) fullShare X0 ∗ owns (c : Thread nD τ) (Memref.whole cc0_scratch1) fullShare X1
      ∗ owns (c : Thread nD τ) (Memref.whole cc0_scratch2) fullShare X2 ∗ owns (c : Thread nD τ) (Memref.whole cc0_scratch3) fullShare X3
      ∗ owns (c : Thread nD τ) (Memref.whole cc0_scratch4) fullShare X4 ∗ owns (c : Thread nD τ) (Memref.whole cc0_scratch5) fullShare X5
      ∗ (∃ r, prngReg c r)) := by
  unfold Pipeline.ΦA
  rw [scopedRest0_eq]
  simp only [owns_whole]
  iintro ⟨⟨⟨%f0, H0⟩, ⟨%f1, H1⟩, ⟨%f2, H2⟩, ⟨%f3, H3⟩, ⟨%f4, H4⟩, ⟨%f5, H5⟩⟩, HR⟩
  iexists f0; iexists f1; iexists f2; iexists f3; iexists f4; iexists f5
  isplitl [H0]; · iexact H0
  isplitl [H1]; · iexact H1
  isplitl [H2]; · iexact H2
  isplitl [H3]; · iexact H3
  isplitl [H4]; · iexact H4
  isplitl [H5]; · iexact H5
  iexact HR

/-- What the body leaves is what the next point finds. -/
theorem leave (t : Fin cfg0.N) (P : ℕ → FVec F S256x256 .f32) (C M : FVec F S256x128 .f32) (d : Vec F S1x256x128 .bf16) :
    iprop(After (envWith m c t P C M) (bufsAt t) c (grid0.coords t) (win0_0.stage (cfg0.slots t 0)) (win0_2.stage (cfg0.slots t 2)) (win0_6.stage (cfg0.slots t 6)) (vsAt m c t) (qsAt m c t) d zeros
        ∗ (∃ r, prngReg c r) : sProp 𝕄)
      ⊢ iprop(Between m c (t.val + 1) t.isLt
        ∗ Ops m c t (if t.val % 129 = 0 then d else outBlock ((envWith m c t P C M).sumF (t.val % 129)) (envWith m c t P C M).accAll (headScale (vsAt m c t) (grid0.coords t)))) := by
  unfold After
  iintro ⟨⟨%SC, %hSC, H9, H10, H11, H12, H13, H14, H2, H3, H4, H5, H6, H7, H8⟩, HR⟩
  isplitl [H9 H10 H11 H12 H13 H14 HR]
  · by_cases h : (t.val + 1) % 129 = 0
    · rw [Between.zero m c _ _ h]
      iapply (forget c SC _ _ _ _ _)
      isplitl [H9]; · iexact H9
      isplitl [H10]; · iexact H10
      isplitl [H11]; · iexact H11
      isplitl [H12]; · iexact H12
      isplitl [H13]; · iexact H13
      isplitl [H14]; · iexact H14
      iexact HR
    · have hlt : t.val % 129 < 128 := by omega
      have hn : (envWith m c t P C M).nT = t.val % 129 + 1 := by unfold Env.nT; exact if_pos hlt
      rw [Between.succ m c t _ h, hn]
      rw [hn] at hSC
      unfold Carry
      isplitr [HR]
      · iexists SC; iexists _
        isplitr
        · ipureintro; exact hSC.1
        isplitl [H9]; · iexact H9
        isplitl [H10]; · iexact H10
        isplitl [H11]; · iexact H11
        isplitl [H12]; · iexact H12
        isplitl [H13]; · iexact H13
        iexact H14
      iexact HR
  unfold Ops
  isplitl [H2]; · iexact H2
  isplitl [H3]; · iexact H3
  isplitl [H4]; · iexact H4
  isplitl [H5]; · iexact H5
  isplitl [H6]; · iexact H6
  isplitl [H7]; · iexact H7
  iexact H8

/-- The body at a point, from any scores, scales and maxima the scratch holds. -/
theorem step (t : Fin cfg0.N) (P : ℕ → FVec F S256x256 .f32) (C M : FVec F S256x128 .f32) (d : Vec F S1x256x128 .bf16)
    (SC : Vec F S128x256x256 .f32) (X10 X13 X14 : Vec F S256x128 .f32)
    (hSC : ∀ l, l < t.val % 129 → l < 128 → Slab SC l (P l)) (h13 : t.val % 129 ≠ 0 → X13 = zeros) (h14 : t.val % 129 ≠ 0 → X14 = zeros) :
    iprop((owns (c : Thread nD τ) (Memref.whole cc0_scratch0) fullShare SC ∗ owns (c : Thread nD τ) (Memref.whole cc0_scratch1) fullShare X10
        ∗ owns (c : Thread nD τ) (Memref.whole cc0_scratch2) fullShare M ∗ owns (c : Thread nD τ) (Memref.whole cc0_scratch3) fullShare C
        ∗ owns (c : Thread nD τ) (Memref.whole cc0_scratch4) fullShare X13 ∗ owns (c : Thread nD τ) (Memref.whole cc0_scratch5) fullShare X14
        ∗ (∃ r, prngReg c r)) ∗ Ops m c t d : sProp 𝕄)
      ⊢ wp frame (wpE (defs₀ (F := F)) Variants.none (c : Thread nD τ) none) Set.univ (bodyAt0 t)
          (fun _ => iprop(Between m c (t.val + 1) t.isLt
            ∗ Ops m c t (if t.val % 129 = 0 then d else outBlock ((envWith m c t P C M).sumF (t.val % 129)) (envWith m c t P C M).accAll (headScale (vsAt m c t) (grid0.coords t))))) := by
  have hrule := attend_rule (F := F) Variants.none c none Set.univ (envWith m c t P C M) (grid0.coords t) (coords1 t).symm
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (vs := vsAt m c t) (qs := qsAt m c t) (d := d) (SC := SC) (X10 := X10) (X13 := X13) (X14 := X14)
    ⟨fun l h => absurd h (Nat.not_lt_zero l), fun l _ => hSC l⟩ h13 h14
  unfold Ops
  iintro ⟨⟨H9, H10, H11, H12, H13, H14, HR⟩, H2, H3, H4, H5, H6, H7, H8⟩
  ihave Hw := hrule $$ [H9 H10 H11 H12 H13 H14 H2 H3 H4 H5 H6 H7 H8]
  · isplitl [H9]; · iexact H9
    isplitl [H10]; · iexact H10
    isplitl [H11]; · iexact H11
    isplitl [H12]; · iexact H12
    isplitl [H13]; · iexact H13
    isplitl [H14]; · iexact H14
    isplitl [H2]; · iexact H2
    isplitl [H3]; · iexact H3
    isplitl [H4]; · iexact H4
    isplitl [H5]; · iexact H5
    isplitl [H6]; · iexact H6
    isplitl [H7]; · iexact H7
    iexact H8
  iapply (wp_wand_r frame)
  isplitl [Hw]; · iexact Hw
  iintro %u HA
  iapply (leave m c t P C M d)
  isplitl [HA]; · iexact HA
  iexact HR

end Cert.Proof.K

end
-- ==== Proof.K.Run.lean ====
/-
  The run of the idealized kernel: what every array holds at the end.
-/
module

public import proofs.«01_k».proof.Proof.K.Oblig
public import Idealize.ShloMosaic.Lib.Pipeline.FrameBody

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- At a head's first point the result's block may be left at anything, -/
theorem leaves_first (c : Dev nD) (t : Fin cfg0.N) (h : t.val % 129 = 0) :
    (dats m 0 c).leavesExact 6 t = (iprop(∃ d, owns (c : Thread nD τ) (st0_6 t) fullShare ((dats m 0 c).before 6 t d)) : sProp 𝕄) :=
  (dats m 0 c).leavesExact_idle 6 t ((idle6_iff _).2 ((coords1 t).trans h)) (flush6_first t h)

/-- at any other it is left at the output. -/
theorem leaves_later (c : Dev nD) (t : Fin cfg0.N) (h : t.val % 129 ≠ 0) :
    (dats m 0 c).leavesExact 6 t = (owns (c : Thread nD τ) (st0_6 t) fullShare (outAt m c t) : sProp 𝕄) := by
  have hi : cfg0.idle 6 (cfg0.grid.coords t) = false := by
    rw [← Bool.not_eq_true]
    exact fun h' => h ((coords1 t).symm.trans ((idle6_iff _).1 h'))
  unfold Dat.leavesExact
  rw [hi, ← after0_6]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [Phi_castSucc, Phi_succ, show (dats m 0 c).owesAt () t.succ = (dats m 0 c).owesAt () t.castSucc from rfl,
    after0_0, after0_1, after0_2, after0_3, after0_4, after0_5]
  by_cases h : t.val % 129 = 0
  · rw [leaves_first m c t h, Between.zero m c _ _ h]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HS := remember c $$ HΦ
    icases HS with ⟨%X0, %X1, %X2, %X3, %X4, %X5, HS⟩
    have hs := step m c t (scoresAt m c t) X3 X2 ((dats m 0 c).before 6 t d6) X0 X1 X4 X5
      (fun l hl => absurd hl (by rw [h]; exact Nat.not_lt_zero l)) (fun h' => absurd h h') (fun h' => absurd h h')
    rw [if_pos h] at hs
    ihave Hw := hs $$ [HS H0 H1 H2 H3 H4 H5 H6]
    · isplitl [HS]; · iexact HS
      unfold Ops
      isplitl [H0]; · iexact H0
      isplitl [H1]; · iexact H1
      isplitl [H2]; · iexact H2
      isplitl [H3]; · iexact H3
      isplitl [H4]; · iexact H4
      isplitl [H5]; · iexact H5
      iexact H6
    iapply (wp_wand_r frame)
    isplitl [Hw]; · iexact Hw
    iintro %u ⟨HB, HO⟩
    isplitl [HB]; · iexact HB
    isplitl [Ho]; · iexact Ho
    unfold Ops
    icases HO with ⟨H0, H1, H2, H3, H4, H5, H6⟩
    isplitl [H0]; · iexact H0
    isplitl [H1]; · iexact H1
    isplitl [H2]; · iexact H2
    isplitl [H3]; · iexact H3
    isplitl [H4]; · iexact H4
    isplitl [H5]; · iexact H5
    iexists d6; iexact H6
  · rw [leaves_later m c t h, Between.pos m c t _ h]
    unfold Carry
    iintro ⟨⟨⟨%SC, %X1, %hSC, HA, HB, HC, HD, HE, HF⟩, HR⟩, Ho, ⟨%d0, H0⟩, ⟨%d1, H1⟩, ⟨%d2, H2⟩, ⟨%d3, H3⟩, ⟨%d4, H4⟩, ⟨%d5, H5⟩, ⟨%d6, H6⟩⟩
    have hb : (before t).val % 129 + 1 = t.val % 129 := by
      show (t.val - 1) % 129 + 1 = t.val % 129
      omega
    have hs := step m c t (scoresAt m c (before t)) (scalesAt m c (before t)) (maxAt m c (before t)) ((dats m 0 c).before 6 t d6) SC X1 zeros zeros
      (fun l hl => hSC l (hb ▸ hl)) (fun _ => rfl) (fun _ => rfl)
    rw [if_neg h] at hs
    ihave Hw := hs $$ [HA HB HC HD HE HF HR H0 H1 H2 H3 H4 H5 H6]
    · isplitl [HA HB HC HD HE HF HR]
      · isplitl [HA]; · iexact HA
        isplitl [HB]; · iexact HB
        isplitl [HC]; · iexact HC
        isplitl [HD]; · iexact HD
        isplitl [HE]; · iexact HE
        isplitl [HF]; · iexact HF
        iexact HR
      unfold Ops
      isplitl [H0]; · iexact H0
      isplitl [H1]; · iexact H1
      isplitl [H2]; · iexact H2
      isplitl [H3]; · iexact H3
      isplitl [H4]; · iexact H4
      isplitl [H5]; · iexact H5
      iexact H6
    iapply (wp_wand_r frame)
    isplitl [Hw]; · iexact Hw
    iintro %u ⟨HB, HO⟩
    isplitl [HB]; · iexact HB
    isplitl [Ho]; · iexact Ho
    unfold Ops
    icases HO with ⟨H0, H1, H2, H3, H4, H5, H6⟩
    isplitl [H0]; · iexact H0
    isplitl [H1]; · iexact H1
    isplitl [H2]; · iexact H2
    isplitl [H3]; · iexact H3
    isplitl [H4]; · iexact H4
    isplitl [H5]; · iexact H5
    iexact H6

/-- The body the pipeline calls at a point. -/
theorem defs₀_row (t : Fin cfg0.N) :
    (defs₀ (F := F)) .tc cfg0.body (cfg0.bodyArgs t (cfg0.slots t)) = bodyAt0 t := by with_unfolding_all rfl

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame_track`'s implicit arguments are found by unifying its conclusion with this one
set_option backward.isDefEq.respectTransparency.types false in
set_option maxHeartbeats 800000 in
/-- Every weakly fair execution ends, with every array at what the proof data says and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      have h : (dats m 0 c).Φ 0 = Pipeline.ΦA spec0 c := by
        dsimp only [dats]
        exact Between.zero m c 0 _ rfl
      rw [h])
    (hout := fun c => by
      have h : (dats m 0 c).Φ (Fin.last cfg0.N) = Pipeline.ΦA spec0 c := by
        dsimp only [dats]
        exact Between.zero m c cfg0.N _ (by rw [show cfg0.N = 2064 from N_0])
      rw [h])

end Cert.Proof.K

end
-- ==== Proof.K.Frames.lean ====
/-
  The frame claims of the kernel: its arguments end unchanged and every semaphore counter ends at zero.
-/
module

public import proofs.«01_k».proof.Proof.K.Run
public import Idealize.ShloMosaic.Lib.Claim

@[expose] public section

noncomputable section

namespace Cert.Proof.K

open Cert.KernelIdeal Cert.KernelIdeal.Gen

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Every weakly fair execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.K

end
-- ==== Proof.K.Same.lean ====
/-
  The kernel and its idealized text are one program: they differ in the names of their definitions only, so what is proved of
  the one at any float type is proved of the other.
-/
module

public import proofs.«01_k».proof.Proof.K.Frames
public import proofs.«01_k».proof.Proof.Gen.Kernel

@[expose] public section

noncomputable section

namespace Cert.Proof.K

open Idealize.ShloMosaic Idealize.ShloMosaic.TcCoe
open Idealize.SL Idealize.SL.Sem

variable {F : FTy → Type} [FloatOps F]

/-- The body tables of the two texts are one. -/
theorem bodies_eq : (@Cert.Kernel.defs₀ F _ _) = (@Cert.KernelIdeal.defs₀ F _ _) := by
  funext p l a
  match p, l, a with
  | .tc, (0 : Fin 1), a => with_unfolding_all rfl
  | .scScalar _, _, _ => rfl
  | .scVector _ _, _, _ => rfl

/-- And so are the tables with the pipeline's own labels. -/
theorem tables_eq : (@Cert.Kernel.defs F _ _) = (@Cert.KernelIdeal.defs F _ _) :=
  congrArg (Pipeline.defs (Cert.KernelIdeal.pcfgs (F := F))) bodies_eq

section

open Cert.Kernel

variable (m : (ℓ : Loc nD τ sig) → Buf (Elt F) ℓ) (ρ : Dev nD → PrngReg)

/-- The kernel's frame: that of its idealized text, the two programs being one. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [tables_eq]
  with_unfolding_all exact frame (F := F) m ρ

end

end Cert.Proof.K

end
-- ==== Proof.K.Entries.lean ====
/-
  The kernel's pieces read at an index, at the ideal values: each is a formula over the extended reals.
-/
module

public import proofs.«01_k».proof.Proof.K.Prog
public import proofs.«01_k».proof.Proof.K.State
public import Idealize.ShloMosaic.Lib.Pointwise

@[expose] public section

noncomputable section

namespace Cert.Proof.K

open Cert.KernelIdeal Cert.KernelIdeal.Gen
open Idealize.ShloMosaic

/-- The softmax scale in base two. -/
def smScale : EReal := Ideal.ofBits .f32 0x3DD53B95#32

/-- The mask's pattern is −∞. -/
theorem ofBits_ninf : Ideal.ofBits .f32 0xFF800000#32 = (⊥ : EReal) := by
  simp [Ideal.ofBits, Ideal.ieee]

/-- That scale is positive. -/
theorem smScale_pos : 0 < smScale := by
  simp [smScale, Ideal.ofBits, Ideal.ieee]
  rw [← EReal.coe_mul, EReal.coe_pos]
  positivity

/-- A maximum taken from −∞ is a supremum. -/
theorem fold_max_bot {α : Type} (s : Finset α) (f : α → EReal) : s.fold max ⊥ f = s.sup f := rfl

/-- One block of scores at a query row and a key column. -/
theorem scoreBlock_apply (q kb : Vec Ideal S1x256x256 .fp8e4m3) (ks : Vec Ideal S1x1x256 .f32) (r c : Fin 256) :
    scoreBlock q kb ks (ix2 r c) = (∑ e : Fin 256, q (ix3 0 r e) * kb (ix3 0 c e)) * ks (ix3 0 0 c) := by
  pointwise [scoreBlock]

/-- Choosing by the order of two small numbers read as words. -/
theorem select_sle (a b : ℕ) (ha : a < 2 ^ 31) (hb : b < 2 ^ 31) (x y : EReal) :
    (Scalar.select (IntOp.cmpi .sle (BitVec.ofNat 32 a) (BitVec.ofNat 32 b)) x y : EReal) = if a ≤ b then x else y := by
  have h : (BitVec.ofNat 32 a).sle (BitVec.ofNat 32 b) = decide (a ≤ b) := by
    rw [BitVec.sle_eq_decide, BitVec.toInt_eq_toNat_of_lt, BitVec.toInt_eq_toNat_of_lt] <;> simp <;> omega
  unfold Scalar.select IntOp.cmpi
  simp only [h]
  by_cases hab : a ≤ b <;> simp [hab]

/-- The diagonal block's mask keeps the columns up to the row. -/
theorem diagMask_apply (x : FVec Ideal S256x256 .f32) (r c : Fin 256) :
    diagMask x (ix2 r c) = if c.val ≤ r.val then x (ix2 r c) else ⊥ := by
  pointwise [diagMask]
  rw [ofBits_ninf]
  exact select_sle _ _ (by omega) (by omega) _ _

/-- The first half of a block of scores is its first 128 columns. -/
theorem half0_apply (x : FVec Ideal S256x256 .f32) (r : Fin 256) (l : Fin 128) :
    half0 x (ix3 0 r l) = x (ix2 r ⟨l.val, by omega⟩) := by
  pointwise [half0, VecWindow.window]
  congr 1
  refine congrArg₂ ix2 (Fin.ext ?_) (Fin.ext ?_)
  · show 0 + 1 * r.val = r.val; omega
  · show 0 + 1 * l.val = l.val; omega

/-- The second half is its last 128 columns. -/
theorem half1_apply (x : FVec Ideal S256x256 .f32) (r : Fin 256) (l : Fin 128) :
    half1 x (ix3 0 r l) = x (ix2 r ⟨128 + l.val, by omega⟩) := by
  pointwise [half1, VecWindow.window]
  congr 1
  refine congrArg₂ ix2 (Fin.ext ?_) (Fin.ext ?_)
  · show 0 + 1 * r.val = r.val; omega
  · show 128 + 1 * l.val = 128 + l.val; omega

/-- A probability is two to the power of the scaled score less the scaled maximum. -/
theorem expHalf_apply (s : Vec Ideal S1x256x128 .f32) (cc mm : Vec Ideal S256x128 .f32) (r : Fin 256) (l : Fin 128) :
    expHalf s cc mm (ix2 r l) = Ideal.exp2 (s (ix3 0 r l) * cc (ix2 r l) - mm (ix2 r l)) := by
  pointwise [expHalf]
  rfl

/-- A block's probabilities times its values, half by half. -/
theorem pvBlock_apply (a b : FVec Ideal S256x128 .f32) (vb : Vec Ideal S1x256x128 .fp8e4m3) (r : Fin 256) (d : Fin 128) :
    pvBlock a b vb (ix2 r d) = (∑ l : Fin 128, a (ix2 r l) * vb (ix3 0 ⟨l.val, by omega⟩ d))
      + ∑ l : Fin 128, b (ix2 r l) * vb (ix3 0 ⟨128 + l.val, by omega⟩ d) := by
  pointwise [pvBlock]

/-- One step of the running maxima. -/
theorem maxStep_apply (mx : FVec Ideal S256x128 .f32) (x : FVec Ideal S256x256 .f32) (r : Fin 256) (l : Fin 128) :
    maxStep mx x (ix2 r l) = max (mx (ix2 r l)) (max (x (ix2 r ⟨l.val, by omega⟩)) (x (ix2 r ⟨128 + l.val, by omega⟩))) := by
  pointwise [maxStep]

/-- A row's scale, in every lane. -/
theorem rowScale_apply (qs : Vec Ideal S1x1x256 .f32) (r : Fin 256) (l : Fin 128) :
    rowScale qs (ix2 r l) = qs (ix3 0 0 r) * smScale := by
  pointwise [rowScale, smScale]

/-- A row's scaled maximum over the lanes, in every lane. -/
theorem rowMax_apply (mx cc : FVec Ideal S256x128 .f32) (r : Fin 256) (l : Fin 128) :
    rowMax mx cc (ix2 r l) = (Finset.univ.sup fun k : Fin 128 => mx (ix2 r k)) * cc (ix2 r l) := by
  pointwise [rowMax]
  rw [ofBits_ninf, fold_max_bot]

/-- The result: accumulated values by the value scale, over the row sum. -/
theorem outBlock_apply (sm acc : FVec Ideal S256x128 .f32) (vs : Ideal .f32) (r : Fin 256) (d : Fin 128) :
    outBlock sm acc vs (ix3 0 r d) = Ideal.div (acc (ix2 r d) * vs) (∑ l : Fin 128, sm (ix2 r l)) := by
  pointwise [outBlock]

end Cert.Proof.K

end
-- ==== Proof.K.RowMath.lean ====
/-
  One row of the attention over the extended reals: the kernel's formula, over the key blocks up to the diagonal, is the
  reference's, over every key.
-/
module

public import Idealize.ShloMosaic.PureOps.Ideal
public import Idealize.ShloMosaic.PureOps.Ideal.Laws

@[expose] public section

noncomputable section

namespace Cert.Proof.K

open Idealize.ShloMosaic

/-! ## Suprema and sums over initial segments -/

/-- A supremum over `Fin n` is one over the first `n` numbers. -/
theorem sup_fin (n : ℕ) (f : ℕ → EReal) : (Finset.univ.sup fun i : Fin n => f i.val) = (Finset.range n).sup f :=
  le_antisymm (Finset.sup_le fun i _ => Finset.le_sup (f := f) (Finset.mem_range.mpr i.isLt))
    (Finset.sup_le fun i hi => Finset.le_sup (f := fun i : Fin n => f i.val) (Finset.mem_univ ⟨i, Finset.mem_range.mp hi⟩))

/-- A supremum over the first `a + b` numbers is that over the first `a` and that over the `b` after them. -/
theorem sup_range_add (a b : ℕ) (f : ℕ → EReal) :
    (Finset.range (a + b)).sup f = max ((Finset.range a).sup f) ((Finset.range b).sup fun i => f (a + i)) := by
  refine le_antisymm (Finset.sup_le fun i hi => ?_) (max_le (Finset.sup_le fun i hi => ?_) (Finset.sup_le fun i hi => ?_))
  · have hi' := Finset.mem_range.mp hi
    by_cases h : i < a
    · exact le_max_of_le_left (Finset.le_sup (Finset.mem_range.mpr h))
    · have e : a + (i - a) = i := by omega
      refine le_max_of_le_right ?_
      have := Finset.le_sup (f := fun i => f (a + i)) (Finset.mem_range.mpr (show i - a < b by omega))
      rwa [e] at this
  · exact Finset.le_sup (Finset.mem_range.mpr (by have := Finset.mem_range.mp hi; omega))
  · exact Finset.le_sup (f := f) (Finset.mem_range.mpr (by have := Finset.mem_range.mp hi; omega))

/-- Past `n` everything is −∞: the supremum stops at `n`. -/
theorem sup_range_of_bot {n N : ℕ} (h : n ≤ N) (f : ℕ → EReal) (hf : ∀ i, n ≤ i → f i = ⊥) :
    (Finset.range N).sup f = (Finset.range n).sup f := by
  obtain ⟨b, rfl⟩ := Nat.exists_eq_add_of_le h
  rw [sup_range_add]
  refine max_eq_left ((Finset.sup_le fun i _ => ?_).trans bot_le)
  rw [hf _ (Nat.le_add_right _ _)]

/-- Past `n` everything is zero: the sum stops at `n`. -/
theorem sum_range_of_zero {n N : ℕ} (h : n ≤ N) (f : ℕ → EReal) (hf : ∀ i, n ≤ i → f i = 0) :
    ∑ i ∈ Finset.range N, f i = ∑ i ∈ Finset.range n, f i := by
  obtain ⟨b, rfl⟩ := Nat.exists_eq_add_of_le h
  rw [Finset.sum_range_add, Finset.sum_eq_zero (s := Finset.range b) fun i _ => hf _ (Nat.le_add_right _ _), add_zero]

/-- A sum over a block of 256, half by half. -/
theorem sum_block (n : ℕ) (f : ℕ → EReal) : ∑ i ∈ Finset.range (256 * (n + 1)), f i
    = (∑ i ∈ Finset.range (256 * n), f i) + ((∑ l : Fin 128, f (256 * n + l.val)) + ∑ l : Fin 128, f (256 * n + (128 + l.val))) := by
  rw [show 256 * (n + 1) = 256 * n + (128 + 128) by omega, Finset.sum_range_add, Finset.sum_range_add,
    Fin.sum_univ_eq_sum_range (fun l => f (256 * n + l)), Fin.sum_univ_eq_sum_range (fun l => f (256 * n + (128 + l)))]

/-- A supremum over a block of 256, half by half. -/
theorem sup_block (n : ℕ) (f : ℕ → EReal) : (Finset.range (256 * (n + 1))).sup f
    = max ((Finset.range (256 * n)).sup f)
        (max (Finset.univ.sup fun l : Fin 128 => f (256 * n + l.val)) (Finset.univ.sup fun l : Fin 128 => f (256 * n + (128 + l.val)))) := by
  rw [show 256 * (n + 1) = 256 * n + (128 + 128) by omega, sup_range_add, sup_range_add,
    sup_fin 128 (fun l => f (256 * n + l)), sup_fin 128 (fun l => f (256 * n + (128 + l)))]

/-! ## The row -/

/-- Scaling by a positive number keeps the order, so it passes through a supremum. -/
theorem sup_mul {C : EReal} (hC : 0 < C) (n : ℕ) (y : ℕ → EReal) :
    (Finset.range n).sup y * C = (Finset.range n).sup fun i => y i * C := by
  have mono : Monotone fun x : EReal => x * C := fun a b h => mul_le_mul_of_nonneg_right h hC.le
  induction n with
  | zero => exact EReal.bot_mul_of_pos hC
  | succ n ih =>
    rw [Finset.range_add_one, Finset.sup_insert, Finset.sup_insert, ← ih]
    exact mono.map_max

/-- The result of one row from its scores `y`, its scale `C`, its values `v` and the value scale, over the first `n` keys,
    the scores' maximum `M` subtracted. -/
def rowOut (y : ℕ → EReal) (C M : EReal) (v : ℕ → EReal) (vs : EReal) (n : ℕ) : EReal :=
  Ideal.div ((∑ κ ∈ Finset.range n, Ideal.exp2 (y κ * C - M) * v κ) * vs) (∑ κ ∈ Finset.range n, Ideal.exp2 (y κ * C - M))

/-- A masked key has probability zero. -/
theorem exp2_masked {C : EReal} (hC : 0 < C) (M : EReal) : Ideal.exp2 (⊥ * C - M) = 0 := by
  rw [EReal.bot_mul_of_pos hC, sub_eq_add_neg, EReal.bot_add, Ideal.exp2_bot]

/-- Two to a power that is not positive is at most one; -/
theorem exp2_le_one {x : EReal} (h : x ≤ 0) : Ideal.exp2 x ≤ 1 := by
  induction x with
  | bot => exact zero_le_one
  | top => exact absurd h (by simp)
  | coe r =>
    rw [Ideal.exp2_coe]
    exact_mod_cast Real.rpow_le_one_of_one_le_of_nonpos one_le_two (by exact_mod_cast h)

/-- two to any power is not negative; -/
theorem exp2_nonneg (x : EReal) : 0 ≤ Ideal.exp2 x := by
  induction x with
  | bot => exact le_rfl
  | top => exact le_top
  | coe r =>
    rw [Ideal.exp2_coe]
    exact_mod_cast Real.rpow_nonneg zero_le_two r

/-- so clipping a probability to a range that holds zero and one does nothing. -/
theorem clip_exp2 {x M T : EReal} (h : x ≤ M) (hT : 1 ≤ T) : min T (max 0 (Ideal.exp2 (x - M))) = Ideal.exp2 (x - M) := by
  have h0 : x - M ≤ 0 := (EReal.sub_le_sub h le_rfl).trans EReal.sub_self_le_zero
  rw [max_eq_right (exp2_nonneg _), min_eq_right ((exp2_le_one h0).trans hT)]

/-- The row over the keys up to `n`, past which all are masked, is the row over all of them. -/
theorem rowOut_eq {C : EReal} (hC : 0 < C) (y v : ℕ → EReal) (vs : EReal) {n N : ℕ} (h : n ≤ N) (hy : ∀ κ, n ≤ κ → y κ = ⊥) :
    rowOut y C ((Finset.range n).sup y * C) v vs n = rowOut y C ((Finset.range N).sup fun κ => y κ * C) v vs N := by
  rw [← sup_mul hC, sup_range_of_bot h y hy]
  unfold rowOut
  rw [sum_range_of_zero h _ fun κ hκ => by rw [hy κ hκ, exp2_masked hC, zero_mul],
    sum_range_of_zero h _ fun κ hκ => by rw [hy κ hκ, exp2_masked hC]]

end Cert.Proof.K

end
-- ==== Proof.K.Result.lean ====
/-
  The attention of one head as a function of the six operands, over the extended reals: what both programs compute.
-/
module

public import proofs.«01_k».proof.Proof.K.Entries
public import proofs.«01_k».proof.Proof.K.RowMath

@[expose] public section

noncomputable section

namespace Cert.Proof.K

open Cert.KernelIdeal
open Idealize.ShloMosaic

/-- A key's number as an index. -/
def key (κ : ℕ) : Fin 32768 := ⟨κ % 32768, Nat.mod_lt _ (by decide)⟩

variable (VS : S16.Idx → EReal) (Q : S16x32768x256.Idx → EReal) (QS : S16x1x32768.Idx → EReal)
  (K : S16x32768x256.Idx → EReal) (KS : S16x1x32768.Idx → EReal) (V : S16x32768x128.Idx → EReal)

/-- The score of query `R` with key `κ` in head `b`, by the key's scale; −∞ for a key after the query. -/
def rowScore (b : Fin 16) (R : Fin 32768) (κ : ℕ) : EReal :=
  if κ ≤ R.val then (∑ e : Fin 256, Q (ix3 b R e) * K (ix3 b (key κ) e)) * KS (ix3 b 0 (key κ)) else ⊥

/-- A query's scale: its own times the softmax scale. -/
def queryScale (b : Fin 16) (R : Fin 32768) : EReal := QS (ix3 b 0 R) * smScale

/-- The attention's result. -/
def attention (b : Fin 16) (R : Fin 32768) (d : Fin 128) : EReal :=
  rowOut (rowScore Q K KS b R) (queryScale QS b R)
    ((Finset.range 32768).sup fun κ => rowScore Q K KS b R κ * queryScale QS b R)
    (fun κ => V (ix3 b (key κ) d)) (VS (ix1 b)) 32768

/-- Keys after the query are masked. -/
theorem rowScore_masked (b : Fin 16) (R : Fin 32768) (κ : ℕ) (h : R.val < κ) : rowScore Q K KS b R κ = ⊥ := if_neg (by omega)

/-- The kernel's form of it: the keys of the blocks up to the query's, the maximum scaled after it is taken. -/
theorem attention_eq (b : Fin 16) (R : Fin 32768) (d : Fin 128) (hq : 0 < QS (ix3 b 0 R)) (n : ℕ) (hn : R.val < n) (hN : n ≤ 32768) :
    rowOut (rowScore Q K KS b R) (queryScale QS b R) ((Finset.range n).sup (rowScore Q K KS b R) * queryScale QS b R)
      (fun κ => V (ix3 b (key κ) d)) (VS (ix1 b)) n = attention VS Q QS K KS V b R d :=
  rowOut_eq (EReal.mul_pos hq smScale_pos) _ _ _ hN fun κ hκ => rowScore_masked Q K KS b R κ (by omega)

end Cert.Proof.K

end
-- ==== Proof.K.Blocks.lean ====
/-
  The operands' blocks at a point, read at an index of the operand.
-/
module

public import proofs.«01_k».proof.Proof.K.Dats
public import proofs.«01_k».proof.Proof.K.Result

@[expose] public section

noncomputable section

namespace Cert.Proof.K

open Cert.KernelIdeal Cert.KernelIdeal.Gen

open Idealize.ShloMosaic Idealize.ShloMosaic.TcCoe

/-- The head of a point. -/
def headOf (t : Fin cfg0.N) : Fin 16 := ⟨t.val / 129, by have h : t.val < grid0.N := t.isLt; rw [N_0] at h; omega⟩

/-- The query row `r` of the query block a point reads. -/
def queryOf (t : Fin cfg0.N) (r : Fin 256) : Fin 32768 := ⟨256 * min (t.val % 129) 127 + r.val, by omega⟩

/-- The query scales' block at a point is its query block, the last point at the last; -/
theorem qsIndex (i : grid0.Coords) : cc0_transform_2 i = ![(i 0).val, 0, min (i 1).val 127] := by
  have h := minWord (i 1)
  have h' := headWord (i 0)
  unfold cc0_transform_2
  dsimp only
  rw [h, h']; rfl

/-- the keys', -/
theorem kIndex (i : grid0.Coords) : cc0_transform_4 i = ![(i 0).val, 0, 0] := by
  have h' := headWord (i 0)
  unfold cc0_transform_4
  dsimp only
  rw [h']; rfl

/-- their scales' -/
theorem ksIndex (i : grid0.Coords) : cc0_transform_3 i = ![(i 0).val, 0, 0] := by
  have h' := headWord (i 0)
  unfold cc0_transform_3
  dsimp only
  rw [h']; rfl

/-- and the values' are the whole head. -/
theorem vIndex (i : grid0.Coords) : cc0_transform_5 i = ![(i 0).val, 0, 0] := by
  have h' := headWord (i 0)
  unfold cc0_transform_5
  dsimp only
  rw [h']; rfl

variable (m : (ℓ : Loc nD τ sig) → Buf (Elt Ideal) ℓ) (c : Dev nD)

/-- The arguments as launched: the value scales, -/
def argVS : S16.Idx → EReal := m (c.tc.loc main_arg0)
/-- the query codes, -/
def argQ : S16x32768x256.Idx → EReal := m (c.tc.loc main_arg1)
/-- their scales, -/
def argQS : S16x1x32768.Idx → EReal := m (c.tc.loc main_arg2)
/-- the key codes, -/
def argK : S16x32768x256.Idx → EReal := m (c.tc.loc main_arg3)
/-- their scales -/
def argKS : S16x1x32768.Idx → EReal := m (c.tc.loc main_arg4)
/-- and the value codes. -/
def argV : S16x32768x128.Idx → EReal := m (c.tc.loc main_arg5)

variable (t : Fin cfg0.N)

/-- The query codes at a point. -/
theorem qAt_apply (r e : Fin 256) : qAt m c t (ix3 0 r e) = argQ m c (ix3 (headOf t) (queryOf t r) e) := by
  have hi : win0_1.index t = cc0_transform_1 (grid0.coords t) := rfl
  rw [qIndex] at hi
  unfold qAt iblk
  rw [View.read_apply]
  show m (c.tc.loc main_arg1) _ = m (c.tc.loc main_arg1) _
  congr 1
  funext a
  apply Fin.ext
  match a with
  | ⟨0, _⟩ => show win0_1.index t 0 * 1 + 1 * 0 = t.val / 129; rw [hi, ← coords0]; show _ * 1 + _ = _; simp
  | ⟨1, _⟩ => show win0_1.index t 1 * 256 + 1 * r.val = 256 * min (t.val % 129) 127 + r.val; rw [hi, ← coords1]; show min _ _ * 256 + _ = _; omega
  | ⟨2, _⟩ => show win0_1.index t 2 * 256 + 1 * e.val = e.val; rw [hi]; show 0 * 256 + _ = _; omega

/-- The query scales at a point. -/
theorem qsAt_apply (r : Fin 256) : qsAt m c t (ix3 0 0 r) = argQS m c (ix3 (headOf t) 0 (queryOf t r)) := by
  have hi : win0_2.index t = cc0_transform_2 (grid0.coords t) := rfl
  rw [qsIndex] at hi
  unfold qsAt iblk
  rw [View.read_apply]
  show m (c.tc.loc main_arg2) _ = m (c.tc.loc main_arg2) _
  congr 1
  funext a
  apply Fin.ext
  match a with
  | ⟨0, _⟩ => show win0_2.index t 0 * 1 + 1 * 0 = t.val / 129; rw [hi, ← coords0]; show _ * 1 + _ = _; simp
  | ⟨1, _⟩ => show win0_2.index t 1 * 1 + 1 * 0 = 0; rw [hi]; rfl
  | ⟨2, _⟩ => show win0_2.index t 2 * 256 + 1 * r.val = 256 * min (t.val % 129) 127 + r.val; rw [hi, ← coords1]; show min _ _ * 256 + _ = _; omega

/-- The keys at a point. -/
theorem kAt_apply (κ : Fin 32768) (e : Fin 256) : kAt m c t (ix3 0 κ e) = argK m c (ix3 (headOf t) κ e) := by
  have hi : win0_4.index t = cc0_transform_4 (grid0.coords t) := rfl
  rw [kIndex] at hi
  unfold kAt iblk
  rw [View.read_apply]
  show m (c.tc.loc main_arg3) _ = m (c.tc.loc main_arg3) _
  congr 1
  funext a
  apply Fin.ext
  match a with
  | ⟨0, _⟩ => show win0_4.index t 0 * 1 + 1 * 0 = t.val / 129; rw [hi, ← coords0]; show _ * 1 + _ = _; simp
  | ⟨1, _⟩ => show win0_4.index t 1 * 32768 + 1 * κ.val = κ.val; rw [hi]; show 0 * 32768 + _ = _; omega
  | ⟨2, _⟩ => show win0_4.index t 2 * 256 + 1 * e.val = e.val; rw [hi]; show 0 * 256 + _ = _; omega

/-- The key scales at a point. -/
theorem ksAt_apply (κ : Fin 32768) : ksAt m c t (ix3 0 0 κ) = argKS m c (ix3 (headOf t) 0 κ) := by
  have hi : win0_3.index t = cc0_transform_3 (grid0.coords t) := rfl
  rw [ksIndex] at hi
  unfold ksAt iblk
  rw [View.read_apply]
  show m (c.tc.loc main_arg4) _ = m (c.tc.loc main_arg4) _
  congr 1
  funext a
  apply Fin.ext
  match a with
  | ⟨0, _⟩ => show win0_3.index t 0 * 1 + 1 * 0 = t.val / 129; rw [hi, ← coords0]; show _ * 1 + _ = _; simp
  | ⟨1, _⟩ => show win0_3.index t 1 * 1 + 1 * 0 = 0; rw [hi]; rfl
  | ⟨2, _⟩ => show win0_3.index t 2 * 32768 + 1 * κ.val = κ.val; rw [hi]; show 0 * 32768 + _ = _; omega

/-- The values at a point. -/
theorem vAt_apply (κ : Fin 32768) (d : Fin 128) : vAt m c t (ix3 0 κ d) = argV m c (ix3 (headOf t) κ d) := by
  have hi : win0_5.index t = cc0_transform_5 (grid0.coords t) := rfl
  rw [vIndex] at hi
  unfold vAt iblk
  rw [View.read_apply]
  show m (c.tc.loc main_arg5) _ = m (c.tc.loc main_arg5) _
  congr 1
  funext a
  apply Fin.ext
  match a with
  | ⟨0, _⟩ => show win0_5.index t 0 * 1 + 1 * 0 = t.val / 129; rw [hi, ← coords0]; show _ * 1 + _ = _; simp
  | ⟨1, _⟩ => show win0_5.index t 1 * 32768 + 1 * κ.val = κ.val; rw [hi]; show 0 * 32768 + _ = _; omega
  | ⟨2, _⟩ => show win0_5.index t 2 * 128 + 1 * d.val = d.val; rw [hi]; show 0 * 128 + _ = _; omega

/-- The value scale of the point's head. -/
theorem headScale_apply : headScale (vsAt m c t) (grid0.coords t) = argVS m c (ix1 (headOf t)) := by
  unfold headScale vsAt iblk
  rw [View.read_apply]
  show m (c.tc.loc main_arg0) _ = m (c.tc.loc main_arg0) _
  congr 1
  funext a
  apply Fin.ext
  match a with
  | ⟨0, _⟩ => show 0 * 16 + 1 * (grid0.coords t 0).val = t.val / 129; rw [coords0]; omega

/-! ## Blocks of the blocks -/

/-- Key block `j`'s key number `i`, -/
theorem keyBlk_apply (k : Vec Ideal S1x32768x256 .fp8e4m3) (j : ℕ) (i e : Fin 256) :
    keyBlk k j (ix3 0 i e) = k (ix3 0 (key (256 * j + i.val)) e) := by
  refine congrArg k (funext fun a => Fin.ext ?_)
  match a with
  | ⟨0, _⟩ => rfl
  | ⟨1, _⟩ => show 256 * (j % 128) + 1 * i.val = (256 * j + i.val) % 32768; omega
  | ⟨2, _⟩ => show 0 + 1 * e.val = e.val; omega

/-- its scale -/
theorem kscaleBlk_apply (ks : Vec Ideal S1x1x32768 .f32) (j : ℕ) (i : Fin 256) :
    kscaleBlk ks j (ix3 0 0 i) = ks (ix3 0 0 (key (256 * j + i.val))) := by
  refine congrArg ks (funext fun a => Fin.ext ?_)
  match a with
  | ⟨0, _⟩ => rfl
  | ⟨1, _⟩ => rfl
  | ⟨2, _⟩ => show 256 * (j % 128) + 1 * i.val = (256 * j + i.val) % 32768; omega

/-- and its values. -/
theorem valBlk_apply (v : Vec Ideal S1x32768x128 .fp8e4m3) (j : ℕ) (i : Fin 256) (d : Fin 128) :
    valBlk v j (ix3 0 i d) = v (ix3 0 (key (256 * j + i.val)) d) := by
  refine congrArg v (funext fun a => Fin.ext ?_)
  match a with
  | ⟨0, _⟩ => rfl
  | ⟨1, _⟩ => show 256 * (j % 128) + 1 * i.val = (256 * j + i.val) % 32768; omega
  | ⟨2, _⟩ => show 0 + 1 * d.val = d.val; omega

end Cert.Proof.K

end
-- ==== Proof.K.PassValue.lean ====
/-
  What a pass leaves in the row sums and the accumulator, as sums over the keys of the query block before.
-/
module

public import proofs.«01_k».proof.Proof.K.Entries
public import proofs.«01_k».proof.Proof.K.RowMath
public import proofs.«01_k».proof.Proof.K.Attend

@[expose] public section

noncomputable section

namespace Cert.Proof.K

open Cert.KernelIdeal Cert.KernelIdeal.Gen
open Idealize.ShloMosaic

/-- The running maxima of a row, over the lanes, are the supremum of its scores. -/
theorem maxF_row (T : ℕ → FVec Ideal S256x256 .f32) (r : Fin 256) (y : ℕ → EReal) (n : ℕ)
    (hT : ∀ j < n, ∀ c : Fin 256, T j (ix2 r c) = y (256 * j + c.val)) :
    (Finset.univ.sup fun l : Fin 128 => maxF T n (ix2 r l)) = (Finset.range (256 * n)).sup y := by
  induction n with
  | zero =>
    refine le_antisymm (Finset.sup_le fun l _ => ?_) bot_le
    show Ideal.ofBits .f32 0xFF800000#32 ≤ _
    rw [ofBits_ninf]; exact bot_le
  | succ n ih =>
    have hs : ∀ l : Fin 128, maxF T (n + 1) (ix2 r l)
        = max (maxF T n (ix2 r l)) (max (y (256 * n + l.val)) (y (256 * n + (128 + l.val)))) := fun l => by
      show maxStep (maxF T n) (T n) (ix2 r l) = _
      rw [maxStep_apply, hT n (Nat.lt_succ_self n), hT n (Nat.lt_succ_self n)]
    rw [sup_block, ← ih fun j hj => hT j (Nat.lt_succ_of_lt hj)]
    simp only [hs]
    exact (Finset.sup_sup).trans (congrArg _ Finset.sup_sup)

section
variable (e : Env Ideal) (r : Fin 256) (y : ℕ → EReal) (v : ℕ → Fin 128 → EReal) (C M : EReal)

/-- What a row of a pass's data is: scores `y`, scale `C`, maximum `M`, values `v`. -/
structure IsRow : Prop where
  le : e.g ≤ 128
  P : ∀ j < e.g, ∀ c : Fin 256, e.P j (ix2 r c) = y (256 * j + c.val)
  C : ∀ l : Fin 128, e.C (ix2 r l) = C
  M : ∀ l : Fin 128, e.M (ix2 r l) = M
  v : ∀ j < e.g, ∀ (c : Fin 256) (d : Fin 128), valBlk e.v j (ix3 0 c d) = v (256 * j + c.val) d

variable {e r y v C M} (h : IsRow e r y v C M)
include h

theorem IsRow.pa {j : ℕ} (hj : j < e.g) (l : Fin 128) : e.pa j (ix2 r l) = Ideal.exp2 (y (256 * j + l.val) * C - M) := by
  unfold Env.pa
  rw [expHalf_apply, half0_apply, h.P j hj, h.C, h.M]

theorem IsRow.pb {j : ℕ} (hj : j < e.g) (l : Fin 128) : e.pb j (ix2 r l) = Ideal.exp2 (y (256 * j + (128 + l.val)) * C - M) := by
  unfold Env.pb
  rw [expHalf_apply, half1_apply, h.P j hj, h.C, h.M]

/-- The row sums, over the lanes, are the sum of the row's probabilities. -/
theorem IsRow.sumF (n : ℕ) (hn : n ≤ e.g) :
    ∑ l : Fin 128, e.sumF n (ix2 r l) = ∑ κ ∈ Finset.range (256 * n), Ideal.exp2 (y κ * C - M) := by
  induction n with
  | zero =>
    refine Finset.sum_eq_zero fun l _ => ?_
    show Ideal.ofBits .f32 0x00000000#32 = 0
    exact Ideal.ofBits_zero_f32
  | succ n ih =>
    have hs : ∀ l : Fin 128, e.sumF (n + 1) (ix2 r l) = e.sumF n (ix2 r l)
        + (Ideal.exp2 (y (256 * n + l.val) * C - M) + Ideal.exp2 (y (256 * n + (128 + l.val)) * C - M)) := fun l => by
      rw [← h.pa hn, ← h.pb hn]; rfl
    rw [sum_block, ← ih (Nat.le_of_succ_le hn)]
    simp only [hs, Finset.sum_add_distrib]

/-- One block's part of the weighted values. -/
theorem IsRow.pv {j : ℕ} (hj : j < e.g) (d : Fin 128) : e.pv j (ix2 r d)
    = (∑ l : Fin 128, Ideal.exp2 (y (256 * j + l.val) * C - M) * v (256 * j + l.val) d)
      + ∑ l : Fin 128, Ideal.exp2 (y (256 * j + (128 + l.val)) * C - M) * v (256 * j + (128 + l.val)) d := by
  unfold Env.pv
  rw [pvBlock_apply]
  simp only [h.pa hj, h.pb hj, h.v j hj]

/-- So the blocks' parts add to the row's weighted values. -/
theorem IsRow.sum_pv (n : ℕ) (hn : n ≤ e.g) (d : Fin 128) :
    ∑ j ∈ Finset.range n, e.pv j (ix2 r d) = ∑ κ ∈ Finset.range (256 * n), Ideal.exp2 (y κ * C - M) * v κ d := by
  induction n with
  | zero => rfl
  | succ n ih => rw [sum_block, ← ih (Nat.le_of_succ_le hn), Finset.sum_range_succ, h.pv hn]

end

section
variable (e : Env Ideal) (i : S256x128.Idx)

/-- The accumulator after `n` chunks is the sum of the first `4 n` blocks' parts, -/
theorem accC_eq (n : ℕ) : e.accC n i = ∑ j ∈ Finset.range (4 * n), e.pv j i := by
  induction n with
  | zero => exact Ideal.ofBits_zero_f32
  | succ n ih =>
    have hs : e.accC (n + 1) i = e.accC n i + (e.pv (4 * n) i + e.pv (4 * n + 1) i + e.pv (4 * n + 2) i + e.pv (4 * n + 3) i) := rfl
    rw [hs, ih, show 4 * (n + 1) = 4 * n + 4 by omega, Finset.sum_range_add]
    simp only [Finset.sum_range_succ, Finset.sum_range_zero, zero_add, add_zero]

/-- after the blocks left over that of those too, -/
theorem accT_eq (A : FVec Ideal S256x128 .f32) (j n : ℕ) (hn : n < 4) : e.accT j A n i = A i + ∑ l ∈ Finset.range n, e.pv (j + l) i := by
  match n, hn with
  | 0, _ => exact (add_zero _).symm
  | 1, _ => rw [Finset.sum_range_one]; rfl
  | 2, _ => simp only [Finset.sum_range_succ, Finset.sum_range_zero, zero_add, add_zero]; rfl
  | 3, _ => simp only [Finset.sum_range_succ, Finset.sum_range_zero, zero_add, add_zero]; rfl

/-- and one block at a time the same. -/
theorem accL_eq (n : ℕ) : e.accL n i = ∑ j ∈ Finset.range n, e.pv j i := by
  induction n with
  | zero => exact Ideal.ofBits_zero_f32
  | succ n ih => rw [Finset.sum_range_succ, ← ih]; rfl

/-- However it is accumulated, the accumulator is the sum of the blocks' parts. -/
theorem accAll_eq (hg : e.g ≤ 128) : e.accAll i = ∑ j ∈ Finset.range e.g, e.pv j i := by
  unfold Env.accAll
  split
  · rw [accT_eq _ _ _ _ _ (Nat.mod_lt _ (by decide)), accC_eq, ← Finset.sum_range_add, Nat.div_add_mod]
  · rw [accL_eq, show e.g = 128 by omega]

end

/-- A row of the result's block. -/
theorem IsRow.out {e : Env Ideal} {r : Fin 256} {y : ℕ → EReal} {v : ℕ → Fin 128 → EReal} {C M : EReal} (h : IsRow e r y v C M)
    (vs : EReal) (d : Fin 128) :
    outBlock (e.sumF e.g) e.accAll vs (ix3 0 r d) = rowOut y C M (fun κ => v κ d) vs (256 * e.g) := by
  rw [outBlock_apply, accAll_eq _ _ h.le, h.sum_pv _ le_rfl, h.sumF _ le_rfl]
  rfl

end Cert.Proof.K

end
-- ==== Proof.K.KernelValue.lean ====
/-
  The kernel's result array: the attention at every index.
-/
module

public import proofs.«01_k».proof.Proof.K.Blocks
public import proofs.«01_k».proof.Proof.K.PassValue
public import proofs.«01_k».proof.Proof.K.Run

@[expose] public section

noncomputable section

namespace Cert.Proof.K

open Cert.KernelIdeal Cert.KernelIdeal.Gen

open Idealize.ShloMosaic Idealize.ShloMosaic.TcCoe Idealize.SL.Sem

variable (m : (ℓ : Loc nD τ sig) → Buf (Elt Ideal) ℓ) (c : Dev nD)

/-- The scores of row `r` of the query block a point reads. -/
def scoreRow (t : Fin cfg0.N) (r : Fin 256) : ℕ → EReal :=
  rowScore (argQ m c) (argK m c) (argKS m c) (headOf t) (queryOf t r)

/-- That row's scale. -/
def scaleRow (t : Fin cfg0.N) (r : Fin 256) : EReal := queryScale (argQS m c) (headOf t) (queryOf t r)

/-- The attention of the arguments as launched. -/
def result : S16x32768x128.Idx → EReal := fun i =>
  attention (argVS m c) (argQ m c) (argQS m c) (argK m c)
    (argKS m c) (argV m c) (i 0) (i 1) (i 2)

/-! ## One point -/

/-- A block of scores without its mask. -/
theorem block_apply (t : Fin cfg0.N) (j : ℕ) (r i : Fin 256) :
    scoreBlock (qAt m c t) (keyBlk (kAt m c t) j) (kscaleBlk (ksAt m c t) j) (ix2 r i)
      = (∑ e : Fin 256, argQ m c (ix3 (headOf t) (queryOf t r) e)
          * argK m c (ix3 (headOf t) (key (256 * j + i.val)) e))
        * argKS m c (ix3 (headOf t) 0 (key (256 * j + i.val))) := by
  rw [scoreBlock_apply, kscaleBlk_apply, ksAt_apply]
  simp only [keyBlk_apply, qAt_apply, kAt_apply]

/-- The scores a point computes are its rows' scores: on the blocks before the diagonal no key is masked, on the diagonal
    those after the row. -/
theorem scoresAt_apply (t : Fin cfg0.N) (ht : t.val % 129 < 128) (j : ℕ) (hj : j < t.val % 129 + 1) (r i : Fin 256) :
    scoresAt m c t j (ix2 r i) = scoreRow m c t r (256 * j + i.val) := by
  have hR : (queryOf t r).val = 256 * (t.val % 129) + r.val := by
    show 256 * min (t.val % 129) 127 + r.val = _; omega
  unfold scoresAt scoreOf scoreRow rowScore
  rw [hR]
  split
  · rename_i hd
    rw [diagMask_apply, block_apply]
    exact if_congr (by omega) rfl rfl
  · rename_i hd
    rw [block_apply, if_pos (by omega)]

/-- The scales a point computes, -/
theorem scalesAt_apply (t : Fin cfg0.N) (r : Fin 256) (l : Fin 128) : scalesAt m c t (ix2 r l) = scaleRow m c t r := by
  unfold scalesAt scaleRow queryScale
  rw [rowScale_apply, qsAt_apply]

/-- and the maxima. -/
theorem maxAt_apply (t : Fin cfg0.N) (ht : t.val % 129 < 128) (r : Fin 256) (l : Fin 128) :
    maxAt m c t (ix2 r l) = (Finset.range (256 * (t.val % 129 + 1))).sup (scoreRow m c t r) * scaleRow m c t r := by
  unfold maxAt
  rw [rowMax_apply, scalesAt_apply, maxF_row _ _ (scoreRow m c t r) _ fun j hj i => scoresAt_apply m c t ht j hj r i]

/-- The point before, in the same head. -/
theorem before_head (t : Fin cfg0.N) (h : t.val % 129 ≠ 0) : headOf (before t) = headOf t :=
  Fin.ext (by show (t.val - 1) / 129 = t.val / 129; omega)
theorem before_block (t : Fin cfg0.N) (h : t.val % 129 ≠ 0) : (before t).val % 129 + 1 = t.val % 129 := by
  show (t.val - 1) % 129 + 1 = t.val % 129; omega

/-- A row of a point's pass. -/
theorem envAt_row (t : Fin cfg0.N) (h : t.val % 129 ≠ 0) (r : Fin 256) :
    IsRow (envAt m c t) r (scoreRow m c (before t) r)
      (fun κ d => argV m c (ix3 (headOf t) (key κ) d)) (scaleRow m c (before t) r)
      ((Finset.range (256 * (t.val % 129))).sup (scoreRow m c (before t) r) * scaleRow m c (before t) r) where
  le := by show t.val % 129 ≤ 128; omega
  P j hj i := scoresAt_apply m c (before t) (by have := before_block t h; omega) j
    (by rw [before_block t h]; exact hj) r i
  C l := scalesAt_apply m c (before t) r l
  M l := by
    have := maxAt_apply m c (before t) (by have := before_block t h; omega) r l
    rwa [before_block t h] at this
  v j hj i d := by
    show valBlk (vAt m c t) j (ix3 0 i d) = _
    rw [valBlk_apply, vAt_apply]

section
/-! ## The array -/

variable (G : S16x32768x128.Idx → EReal)
  (hG : ∀ (t : Fin cfg0.N), t.val % 129 ≠ 0 → ∀ (r : Fin 256) (d : Fin 128), outAt m c t (ix3 0 r d) = G (ix3 (headOf t) (queryOf (before t) r) d))
include hG

/-- If every point's result is its block of `G`, what a point writes back is that block, -/
theorem flushed_eq (t : Fin cfg0.N) (hf : (cfg0.win 6).flush t = true) :
    (dats m 0 c).flushed 6 t = ((cfg0.win 6).blk t).view.read (Elt Ideal) G := by
  have h : t.val % 129 ≠ 0 := fun h => by rw [flush6_first t h] at hf; exact absurd hf (by decide)
  have hi : win0_6.index t = cc0_transform_6 (grid0.coords t) := rfl
  rw [outIndex] at hi
  show (cfg0.win 6).cut (grid0.coords t) ((dats m 0 c).after 6 t) = _
  rw [after0_6]
  funext j
  rw [View.read_apply]
  show outAt m c t j = G _
  obtain ⟨a, r, d, rfl⟩ : ∃ (a : Fin 1) (r : Fin 256) (d : Fin 128), j = ix3 a r d := ⟨_, _, _, eq_ix3 j⟩
  obtain rfl : a = 0 := Subsingleton.elim _ _
  rw [hG t h]
  refine congrArg G (funext fun a => Fin.ext ?_)
  have hb := before_block t h
  match a with
  | ⟨0, _⟩ => show t.val / 129 = win0_6.index t 0 * 1 + 1 * 0; rw [hi, ← coords0]; show _ = _ * 1 + _; simp
  | ⟨1, _⟩ => show 256 * min ((before t).val % 129) 127 + r.val = win0_6.index t 1 * 256 + 1 * r.val; rw [hi]; show _ = ((grid0.coords t 1).val - 1) * 256 + _; rw [coords1]; omega
  | ⟨2, _⟩ => show d.val = win0_6.index t 2 * 128 + 1 * d.val; rw [hi]; show _ = 0 * 128 + _; omega

/-- and the result array ends holding `G`: row `R` of head `b` is in the block point `b · 129 + R / 256 + 1` writes. -/
theorem final_of : (dats m 0 c).arrAt 6 cfg0.N = G :=
  (dats m 0 c).arrAt_eq_of_cover 6 G (flushed_eq m c G hG) fun i => by
    have h0 : (i 0 : ℕ) < 16 := (i 0).isLt
    have h1 : (i 1 : ℕ) < 32768 := (i 1).isLt
    have h2 : (i 2 : ℕ) < 128 := (i 2).isLt
    have hN : grid0.N = 2064 := N_0
    have ht : (i 0 : ℕ) * 129 + (i 1 : ℕ) / 256 + 1 < grid0.N := by rw [hN]; omega
    let t : Fin cfg0.N := ⟨(i 0 : ℕ) * 129 + (i 1 : ℕ) / 256 + 1, ht⟩
    have hi : win0_6.index t = cc0_transform_6 (grid0.coords t) := rfl
    rw [outIndex, coords0, coords1] at hi
    have e0 : t.val / 129 = (i 0 : ℕ) := by show ((i 0 : ℕ) * 129 + (i 1 : ℕ) / 256 + 1) / 129 = _; omega
    have e1 : t.val % 129 = (i 1 : ℕ) / 256 + 1 := by show ((i 0 : ℕ) * 129 + (i 1 : ℕ) / 256 + 1) % 129 = _; omega
    rw [e0, e1] at hi
    refine ⟨t, flush6_later t (by omega), ?_⟩
    show i ∈ ((View.whole main_v0).slice (win0_6.rect t)).set
    rw [View.set_slice_whole, Rect.mem_set_unit]
    intro a
    match a with
    | ⟨0, _⟩ => show win0_6.index t 0 * 1 ≤ (i 0 : ℕ) ∧ (i 0 : ℕ) < win0_6.index t 0 * 1 + 1; rw [hi]; show (i 0 : ℕ) * 1 ≤ _ ∧ _ < (i 0 : ℕ) * 1 + 1; omega
    | ⟨1, _⟩ => show win0_6.index t 1 * 256 ≤ (i 1 : ℕ) ∧ (i 1 : ℕ) < win0_6.index t 1 * 256 + 256; rw [hi]; show ((i 1 : ℕ) / 256 + 1 - 1) * 256 ≤ _ ∧ _ < ((i 1 : ℕ) / 256 + 1 - 1) * 256 + 256; omega
    | ⟨2, _⟩ => show win0_6.index t 2 * 128 ≤ (i 2 : ℕ) ∧ (i 2 : ℕ) < win0_6.index t 2 * 128 + 128; rw [hi]; show 0 * 128 ≤ _ ∧ _ < 0 * 128 + 128; omega

end

/-! ## The attention -/

variable (hq : ∀ i, 0 < argQS m c i)
include hq

/-- The block a point writes back is the attention of the query block before. -/
theorem outAt_apply (t : Fin cfg0.N) (h : t.val % 129 ≠ 0) (r : Fin 256) (d : Fin 128) :
    outAt m c t (ix3 0 r d) = result m c (ix3 (headOf t) (queryOf (before t) r) d) := by
  have hb := before_block t h
  unfold outAt
  rw [(envAt_row m c t h r).out, headScale_apply]
  unfold scoreRow scaleRow
  rw [before_head t h]
  refine attention_eq _ _ _ _ _ _ _ _ d (hq _) _ ?_ ?_
  · show 256 * min ((before t).val % 129) 127 + r.val < 256 * (t.val % 129); omega
  · show 256 * (t.val % 129) ≤ 32768; omega

/-- The result array ends holding the attention. -/
theorem final : (dats m 0 c).arrAt 6 cfg0.N = result m c := final_of m c (result m c) (outAt_apply m c hq)

end Cert.Proof.K

end
-- ==== Proof.K.RefEntry.lean ====
/-
  The reference's body read at an index: the attention.
-/
module

public import proofs.«01_k».proof.Proof.K.Result
public import proofs.«01_k».proof.Proof.Gen.ReferenceIdeal.Skeleton
public import Idealize.ShloMosaic.Lib.Pointwise

@[expose] public section

noncomputable section

namespace Cert.Proof.K

open Cert.ReferenceIdeal Cert.ReferenceIdeal.Gen
open Idealize.ShloMosaic

/-- An index is the key of its number. -/
theorem key_val (x : Fin 32768) : key x.val = x := Fin.ext (Nat.mod_eq_of_lt x.isLt)

/-- The clip's upper end is at least one. -/
theorem ofBits_max : 1 ≤ (Ideal.ofBits .f32 0x43E00000#32 : EReal) := by
  simp [Ideal.ofBits, Ideal.ieee]
  norm_cast
  norm_num

section

variable (q k : Vec Ideal S16x32768x256 .fp8e4m3) (ks : Vec Ideal S16x1x32768 .f32) (qs : Vec Ideal S16x32768x1 .f32)
  (v : Vec Ideal S16x32768x128 .fp8e4m3) (vs : Vec Ideal S16x1x1 .f32)

/-- A query's scale, from the reference's array of scales. -/
abbrev scaleOf (b : Fin 16) (R : Fin 32768) : EReal := queryScale (fun i => qs (ix3 (i 0) (i 2) 0)) b R

/-- The maximum of a query's scaled scores. -/
abbrev topOf (b : Fin 16) (R : Fin 32768) : EReal :=
  (Finset.range 32768).sup fun κ => rowScore q k ks b R κ * scaleOf qs b R

/-- The result at an index, from the row sums, the value products and the value scales. -/
theorem pay1_apply (s : FVec Ideal S16x32768x1 .f32) (o c : FVec Ideal S16x32768x128 .f32) (b : Fin 16) (R : Fin 32768) (d : Fin 128) :
    k0_pay1 s o c (ix3 b R d) = Ideal.div (o (ix3 b R d) * c (ix3 b R d)) (s (ix3 b R 0)) := by
  pointwise [k0_pay1]

/-- The value scales, repeated over a head. -/
theorem pay5_apply (b : Fin 16) (R : Fin 32768) (d : Fin 128) : k0_pay5 vs (ix3 b R d) = vs (ix3 b 0 0) := by
  pointwise [k0_pay5]

variable (b : Fin 16) (R : Fin 32768) (hq : 0 < qs (ix3 b R 0))
include hq

/-- A probability: masking after the scores are scaled is masking before, the scale being positive. -/
theorem pay2_apply (x : Fin 32768) :
    k0_pay2 q k qs ks (ix3 b R x) = Ideal.exp2 (rowScore q k ks b R x.val * scaleOf qs b R - topOf q k ks qs b R) := by
  pointwise [k0_pay2]
  have hm : ∀ x : Fin 32768, (Scalar.select (IntOp.cmpi .sle (BitVec.ofNat 32 x.val) (BitVec.ofNat 32 R.val))
      ((∑ e : Fin 256, q (ix3 b R e) * k (ix3 b x e)) * qs (ix3 b R 0) * ks (ix3 b 0 x) * Ideal.ofBits FTy.f32 0x3DD53B95#32)
      (Ideal.ofBits FTy.f32 0xFF800000#32) : EReal) = rowScore q k ks b R x.val * scaleOf qs b R := fun x => by
    rw [ofBits_ninf, select_sle _ _ (by omega) (by omega)]
    unfold rowScore
    rw [key_val]
    split_ifs
    · show _ = _ * (qs (ix3 b R 0) * smScale)
      rw [← mul_assoc, mul_right_comm (∑ e : Fin 256, q (ix3 b R e) * k (ix3 b x e))]
      rfl
    · exact (EReal.bot_mul_of_pos (EReal.mul_pos hq smScale_pos)).symm
  simp only [hm]
  rw [ofBits_ninf, fold_max_bot, topOf, ← sup_fin 32768 fun κ => rowScore q k ks b R κ * scaleOf qs b R]
  rfl

omit hq in
/-- A score is at most the maximum. -/
theorem score_le (x : Fin 32768) : rowScore q k ks b R x.val * scaleOf qs b R ≤ topOf q k ks qs b R :=
  Finset.le_sup (f := fun κ => rowScore q k ks b R κ * scaleOf qs b R) (Finset.mem_range.mpr x.isLt)

/-- A row sum. -/
theorem pay3_apply : k0_pay3 q k qs ks (ix3 b R 0)
    = ∑ κ ∈ Finset.range 32768, Ideal.exp2 (rowScore q k ks b R κ * scaleOf qs b R - topOf q k ks qs b R) := by
  pointwise [k0_pay3]
  simp only [pay2_apply q k ks qs b R hq]
  rw [← Fin.sum_univ_eq_sum_range]

/-- A value product: the clip of the probabilities does nothing. -/
theorem pay4_apply (d : Fin 128) : k0_pay4 q k qs ks v (ix3 b R d)
    = ∑ κ ∈ Finset.range 32768, Ideal.exp2 (rowScore q k ks b R κ * scaleOf qs b R - topOf q k ks qs b R) * v (ix3 b (key κ) d) := by
  pointwise [k0_pay4]
  simp only [pay2_apply q k ks qs b R hq]
  rw [← Fin.sum_univ_eq_sum_range]
  refine Finset.sum_congr rfl fun x _ => ?_
  rw [clip_exp2 (score_le q k ks qs b R x) ofBits_max, key_val]

/-- The reference's result at an index is the attention of its head, query and column. -/
theorem pay_apply (d : Fin 128) :
    k0_pay1 (k0_pay3 q k qs ks) (k0_pay4 q k qs ks v) (k0_pay5 vs) (ix3 b R d)
      = attention (fun i => vs (ix3 (i 0) 0 0)) q (fun i => qs (ix3 (i 0) (i 2) 0)) k ks v b R d := by
  rw [pay1_apply, pay3_apply q k ks qs b R hq, pay4_apply q k ks qs v b R hq, pay5_apply]
  rfl

end

end Cert.Proof.K

end
-- ==== Proof.K.RefValue.lean ====
/-
  The reference's result array.
-/
module

public import proofs.«01_k».proof.Proof.K.RefEntry
public import proofs.«01_k».proof.Proof.Gen.ReferenceIdeal.Value

@[expose] public section

noncomputable section

namespace Cert.Proof.K.Ref

open Cert.ReferenceIdeal Cert.ReferenceIdeal.Gen
open Idealize.ShloMosaic Idealize.ShloMosaic.TcCoe

variable (m : (ℓ : Loc nD τ sig) → Buf (Elt Ideal) ℓ) (c : Dev nD)

/-- The arguments as launched: the value scales, -/
def argVS : S16.Idx → EReal := m (c.tc.loc main_arg0)
/-- the query codes, -/
def argQ : S16x32768x256.Idx → EReal := m (c.tc.loc main_arg1)
/-- their scales, -/
def argQS : S16x1x32768.Idx → EReal := m (c.tc.loc main_arg2)
/-- the key codes, -/
def argK : S16x32768x256.Idx → EReal := m (c.tc.loc main_arg3)
/-- their scales, -/
def argKS : S16x1x32768.Idx → EReal := m (c.tc.loc main_arg4)
/-- and the value codes. -/
def argV : S16x32768x128.Idx → EReal := m (c.tc.loc main_arg5)

/-- The value scales the call reads are the first argument's, reshaped; -/
theorem V_main_v0 : V m c main_v0 = shapeCast S16x1x1 (argVS m c) shapeCasts_S16_S16x1x1 := by
  show StableHlo.after hostOps0 _ (Proc.devRef .tc main_v0) = _
  after_results
  rfl

/-- and the query scales the third argument's. -/
theorem V_main_v1 : V m c main_v1 = shapeCast S16x32768x1 (argQS m c) shapeCasts_S16x1x32768_S16x32768x1 := by
  show StableHlo.after hostOps0 _ (Proc.devRef .tc main_v1) = _
  after_results
  rfl

/-- The reshaped value scales at an index. -/
theorem vs_apply (b : Fin 16) : shapeCast S16x1x1 (argVS m c) shapeCasts_S16_S16x1x1 (ix3 b 0 0) = argVS m c (ix1 b) := by
  pointwise []

/-- The reshaped query scales at an index. -/
theorem qs_apply (b : Fin 16) (R : Fin 32768) :
    shapeCast S16x32768x1 (argQS m c) shapeCasts_S16x1x32768_S16x32768x1 (ix3 b R 0) = argQS m c (ix3 b 0 R) := by
  pointwise []

variable (t : Fin cfg0.N)

/-- The call's one point reads each operand whole: the value scales, -/
theorem blk0 : iblk m c 0 t = V m c main_v0 := by
  have hz : (fun a => win0_0.index t a * main_v0.ty.shape.size a) = fun _ => 0 := funext fun a => by fin_cases a <;> exact Nat.zero_mul _
  exact Memref.read_access_unit_zero (Elt Ideal) main_v0 hz (fun a => by rw [congrFun hz a]; simp) (V m c main_v0)

/-- the query codes, -/
theorem blk1 : iblk m c 1 t = V m c main_arg1 := by
  have hz : (fun a => win0_1.index t a * main_arg1.ty.shape.size a) = fun _ => 0 := funext fun a => by fin_cases a <;> exact Nat.zero_mul _
  exact Memref.read_access_unit_zero (Elt Ideal) main_arg1 hz (fun a => by rw [congrFun hz a]; simp) (V m c main_arg1)

/-- their scales, -/
theorem blk2 : iblk m c 2 t = V m c main_v1 := by
  have hz : (fun a => win0_2.index t a * main_v1.ty.shape.size a) = fun _ => 0 := funext fun a => by fin_cases a <;> exact Nat.zero_mul _
  exact Memref.read_access_unit_zero (Elt Ideal) main_v1 hz (fun a => by rw [congrFun hz a]; simp) (V m c main_v1)

/-- the key codes, -/
theorem blk3 : iblk m c 3 t = V m c main_arg3 := by
  have hz : (fun a => win0_3.index t a * main_arg3.ty.shape.size a) = fun _ => 0 := funext fun a => by fin_cases a <;> exact Nat.zero_mul _
  exact Memref.read_access_unit_zero (Elt Ideal) main_arg3 hz (fun a => by rw [congrFun hz a]; simp) (V m c main_arg3)

/-- their scales, -/
theorem blk4 : iblk m c 4 t = V m c main_arg4 := by
  have hz : (fun a => win0_4.index t a * main_arg4.ty.shape.size a) = fun _ => 0 := funext fun a => by fin_cases a <;> exact Nat.zero_mul _
  exact Memref.read_access_unit_zero (Elt Ideal) main_arg4 hz (fun a => by rw [congrFun hz a]; simp) (V m c main_arg4)

/-- and the value codes. -/
theorem blk5 : iblk m c 5 t = V m c main_arg5 := by
  have hz : (fun a => win0_5.index t a * main_arg5.ty.shape.size a) = fun _ => 0 := funext fun a => by fin_cases a <;> exact Nat.zero_mul _
  exact Memref.read_access_unit_zero (Elt Ideal) main_arg5 hz (fun a => by rw [congrFun hz a]; simp) (V m c main_arg5)

/-- The block the call's one point writes back. -/
def outAt : Vec Ideal S16x32768x128 .bf16 :=
  k0_pay1 (k0_pay3 (argQ m c) (argK m c) (V m c main_v1) (argKS m c))
    (k0_pay4 (argQ m c) (argK m c) (V m c main_v1) (argKS m c) (argV m c)) (k0_pay5 (V m c main_v0))

/-- It is what the call's stores leave in the output window; -/
theorem flushed_out : (dats m 0 c).flushed 6 t = (cfg0.win 6).cut (grid0.coords t) (outAt m c) := by
  rw [Value.flushed6, blk0, blk1, blk2, blk3, blk4, blk5, V_main_arg1, V_main_arg3, V_main_arg4, V_main_arg5]
  have hz : (![0, 0, 0] : Fin 3 → Nat) = fun _ => 0 := by funext a; fin_cases a <;> rfl
  unfold out0_6 outAt r0_0 r0_1 r0_2 r0_3 r0_4
  rw [View.canon_unit_zero hz, View.ld_unit_zero (S := S16x32768x256) hz, View.ld_unit_zero (S := S16x32768x256) hz,
    View.ld_unit_zero (S := S16x1x32768) hz, View.ld_unit_zero (S := S16x32768x1) hz, View.ld_unit_zero (S := S16x32768x128) hz,
    View.ld_unit_zero (S := S16x1x1) hz]
  rfl

/-- and each of its entries is the attention, the query scales being positive. -/
theorem outAt_apply (hq : ∀ i, 0 < argQS m c i) (b : Fin 16) (R : Fin 32768) (d : Fin 128) :
    outAt m c (ix3 b R d) = attention (argVS m c) (argQ m c) (argQS m c) (argK m c) (argKS m c) (argV m c) b R d := by
  unfold outAt
  rw [V_main_v0, V_main_v1, pay_apply (hq := by rw [qs_apply]; exact hq _)]
  have h0 : (fun i : S16.Idx => shapeCast S16x1x1 (argVS m c) shapeCasts_S16_S16x1x1 (ix3 (i 0) 0 0)) = argVS m c :=
    funext fun i => by
      obtain ⟨b, rfl⟩ : ∃ b : Fin 16, i = ix1 b := ⟨_, eq_ix1 i⟩
      exact vs_apply m c b
  have h1 : (fun i : S16x1x32768.Idx => shapeCast S16x32768x1 (argQS m c) shapeCasts_S16x1x32768_S16x32768x1 (ix3 (i 0) (i 2) 0)) = argQS m c :=
    funext fun i => by
      obtain ⟨b, z, R, rfl⟩ : ∃ (b : Fin 16) (z : Fin 1) (R : Fin 32768), i = ix3 b z R := ⟨_, _, _, eq_ix3 i⟩
      obtain rfl : z = 0 := Subsingleton.elim _ _
      exact qs_apply m c b R
  exact congrArg₂ (fun x y => attention x (argQ m c) y (argK m c) (argKS m c) (argV m c) b R d) h0 h1

/-! ## The array -/

section

variable (G : S16x32768x128.Idx → EReal) (hG : ∀ b R d, outAt m c (ix3 b R d) = G (ix3 b R d))
include hG

/-- If the block's entries are those of `G`, the block is `G` read through the window, -/
theorem flushed_eq : (dats m 0 c).flushed 6 t = ((cfg0.win 6).blk t).view.read (Elt Ideal) G := by
  have hG' : outAt m c = G := funext fun i => by
    obtain ⟨b, R, d, rfl⟩ : ∃ (b : Fin 16) (R : Fin 32768) (d : Fin 128), i = ix3 b R d := ⟨_, _, _, eq_ix3 i⟩
    exact hG b R d
  have hz : (fun a => win0_6.index t a * main_v2.ty.shape.size a) = fun _ => 0 := funext fun a => by fin_cases a <;> exact Nat.zero_mul _
  rw [flushed_out, hG']
  exact (Memref.read_access_unit_zero (Elt Ideal) main_v2 hz (fun a => by rw [congrFun hz a]; simp) G).symm

/-- and the result array ends holding `G`. -/
theorem final_of : (dats m 0 c).arrAt 6 cfg0.N = G :=
  (dats m 0 c).arrAt_eq_of_cover 6 G (fun t _ => flushed_eq m c t G hG) fun i => by
    have h0 : (i 0 : ℕ) < 16 := (i 0).isLt
    have h1 : (i 1 : ℕ) < 32768 := (i 1).isLt
    have h2 : (i 2 : ℕ) < 128 := (i 2).isLt
    refine ⟨t0_0, by decide +kernel, ?_⟩
    show i ∈ ((View.whole main_v2).slice (win0_6.rect t0_0)).set
    rw [View.set_slice_whole, Rect.mem_set_unit]
    intro a
    match a with
    | ⟨0, _⟩ => show 0 * 16 ≤ (i 0 : ℕ) ∧ (i 0 : ℕ) < 0 * 16 + 16; omega
    | ⟨1, _⟩ => show 0 * 32768 ≤ (i 1 : ℕ) ∧ (i 1 : ℕ) < 0 * 32768 + 32768; omega
    | ⟨2, _⟩ => show 0 * 128 ≤ (i 2 : ℕ) ∧ (i 2 : ℕ) < 0 * 128 + 128; omega

end

end Cert.Proof.K.Ref

end
-- ==== Proof.K.Equal.lean ====
/-
  The kernel and the reference end with equal results.
-/
module

public import proofs.«01_k».proof.Defs
public import proofs.«01_k».proof.Proof.K.KernelValue
public import proofs.«01_k».proof.Proof.K.RefValue
public import proofs.«01_k».proof.Proof.K.Frames

@[expose] public section

noncomputable section

namespace Cert.Proof.K

open Idealize.ShloMosaic Idealize.ShloMosaic.TcCoe Idealize.SL.Sem

/-- The precondition's side conditions. -/
theorem pre_facts : Cert.Pre_scales_positive.Facts := ⟨by decide⟩

/-- A comparison's bit is set only where the comparison holds. -/
theorem of_ogt {x y : EReal} (h : (FloatOps.cmpf (F := Ideal) (φ := .f32) .ogt x y : BitVec 1) = 1#1) : y < x := by
  by_contra hn
  have : (FloatOps.cmpf (F := Ideal) (φ := .f32) .ogt x y : BitVec 1) = BitVec.ofBool (decide (y < x)) := rfl
  rw [this, decide_eq_false hn] at h
  exact absurd h (by decide)

section

open Cert.KernelIdeal Cert.KernelIdeal.Gen

variable (m : (ℓ : Loc nD τ sig) → Buf (Elt Ideal) ℓ)

/-- Under the precondition every query scale is positive. -/
theorem scales_pos (h : Pre_KernelIdeal_scales_positive (hPre_scales_positive := pre_facts) m) (c : Dev nD) (i : S16x1x32768.Idx) :
    0 < argQS m c i := by
  have e := congrFun (h c) i
  have z : (Ideal.ofBits .f32 0x00000000#32 : EReal) = 0 := by simp [Ideal.ofBits, Ideal.ieee]
  have := of_ogt e
  rw [← z]
  exact this

/-- The result at an index. -/
theorem result_apply (c : Dev nD) (b : Fin 16) (R : Fin 32768) (d : Fin 128) :
    result m c (ix3 b R d) = attention (argVS m c) (argQ m c) (argQS m c) (argK m c) (argKS m c) (argV m c) b R d := rfl

/-- The kernel's run, read: the result array holds the attention, the arguments are as launched. -/
theorem run (ρ : Dev nD → PrngReg) (hq : ∀ c i, 0 < argQS m c i) :
    θ_run (defs (F := Ideal)) (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c => ⟨((h.1.1 c).1 6).trans (final m c (hq c)), h.2.1 c⟩) (θ_run_and (run_main m ρ) (frame m ρ))

end

section

open Cert.ReferenceIdeal Cert.ReferenceIdeal.Gen

variable (m : (ℓ : Loc Cert.KernelIdeal.nD Cert.KernelIdeal.τ Cert.KernelIdeal.sig) → Buf (Elt Ideal) ℓ)
  (m' : (ℓ : Loc nD τ sig) → Buf (Elt Ideal) ℓ)

/-- From the same arguments the reference's block holds the kernel's result. -/
theorem ref_apply (c : Dev nD) (h0 : Ref.argVS m' c = argVS m c) (h1 : Ref.argQ m' c = argQ m c) (h2 : Ref.argQS m' c = argQS m c)
    (h3 : Ref.argK m' c = argK m c) (h4 : Ref.argKS m' c = argKS m c) (h5 : Ref.argV m' c = argV m c)
    (hq : ∀ i, 0 < argQS m c i) (b : Fin 16) (R : Fin 32768) (d : Fin 128) :
    Ref.outAt m' c (ix3 b R d) = result m c (ix3 b R d) := by
  rw [Ref.outAt_apply m' c (by rw [h2]; exact hq), result_apply, h0, h1, h2, h3, h4, h5]

end

/-- The kernel and the reference, run from the same arguments with positive query scales, end with the same result. -/
theorem equal : algebraic_KernelIdeal_ReferenceIdeal_pre_scales_positive (hKernelIdeal := Cert.KernelIdeal.Gen.facts)
    (hReferenceIdeal := Cert.ReferenceIdeal.Gen.facts) (hPre_scales_positive := pre_facts) :=
  fun m g m' g' hpre hargs => ⟨fun c => result m c, run m g (scales_pos m hpre),
    (θ_run _ _ _).mono (fun _ h c => ⟨(h c).1.trans (Ref.final_of m' c (result m c) (ref_apply m m' c (hargs c).1 (hargs c).2.1
      (hargs c).2.2.1 (hargs c).2.2.2.1 (hargs c).2.2.2.2.1 (hargs c).2.2.2.2.2 (scales_pos m hpre c))), (h c).2⟩)
      (Cert.ReferenceIdeal.Value.run_blocks m' g')⟩

end Cert.Proof.K

end
-- ==== Proof.lean ====
/-
  The proof of the certificate's claim.
-/
module

public import proofs.«01_k».proof.Defs
public import proofs.«01_k».proof.Proof.Gen.ReferenceIdeal.Frame
public import proofs.«01_k».proof.Proof.Gen.ReferenceIdeal.Value
public import proofs.«01_k».proof.Proof.K.Same
public import proofs.«01_k».proof.Proof.K.Equal
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, K.pre_facts,
  fun m g _ => K.kernel_frame m g,
  fun m g _ => K.frame m g,
  fun m g _ => K.frame m g,
  fun m g _ => Cert.ReferenceIdeal.Gen.frame m g,
  fun m g _ => Cert.ReferenceIdeal.Gen.frame m g,
  trivial,
  K.equal⟩

end Cert.Proof

end
